-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores [hPre_real_scores : Cert.Pre_real_scores.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores [hPre_real_scores : Cert.Pre_real_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_real_scores3 [hPre_real_scores3 : Cert.Pre_real_scores3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_real_scores3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_real_scores3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_real_scores3 [hPre_real_scores3 : Cert.Pre_real_scores3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_real_scores3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_real_scores3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_real_scores [hKernelIdeal : Cert.KernelIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_real_scores [hReferenceIdeal : Cert.ReferenceIdeal.Facts] [hPre_real_scores : Cert.Pre_real_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_real_scores3 [hKernel3Ideal : Cert.Kernel3Ideal.Facts] [hPre_real_scores3 : Cert.Pre_real_scores3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_real_scores3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_real_scores3 [hReference3Ideal : Cert.Reference3Ideal.Facts] [hPre_real_scores3 : Cert.Pre_real_scores3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_real_scores3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal_pre_real_scores [hKernelIdeal : Cert.KernelIdeal.Facts] [hReferenceIdeal : Cert.ReferenceIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_real_scores3 [hKernel3Ideal : Cert.Kernel3Ideal.Facts] [hReference3Ideal : Cert.Reference3Ideal.Facts] [hPre_real_scores3 : Cert.Pre_real_scores3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_real_scores3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_real_scores : Cert.Pre_real_scores.Facts) (hPre_real_scores3 : Cert.Pre_real_scores3.Facts),
    quiescent_Kernel (hKernel := hKernel)
    ∧ quiescent_KernelIdeal (hKernelIdeal := hKernelIdeal)
    ∧ quiescent_KernelIdeal_pre_real_scores (hKernelIdeal := hKernelIdeal) (hPre_real_scores := hPre_real_scores)
    ∧ quiescent_ReferenceIdeal (hReferenceIdeal := hReferenceIdeal)
    ∧ quiescent_ReferenceIdeal_pre_real_scores (hReferenceIdeal := hReferenceIdeal) (hPre_real_scores := hPre_real_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_real_scores3 (hKernel3Ideal := hKernel3Ideal) (hPre_real_scores3 := hPre_real_scores3)
    ∧ quiescent_Reference3Ideal (hReference3Ideal := hReference3Ideal)
    ∧ quiescent_Reference3Ideal_pre_real_scores3 (hReference3Ideal := hReference3Ideal) (hPre_real_scores3 := hPre_real_scores3)
    ∧ preserves_Kernel_KernelIdeal
    ∧ algebraic_KernelIdeal_ReferenceIdeal_pre_real_scores (hKernelIdeal := hKernelIdeal) (hReferenceIdeal := hReferenceIdeal) (hPre_real_scores := hPre_real_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_real_scores3 (hKernel3Ideal := hKernel3Ideal) (hReference3Ideal := hReference3Ideal) (hPre_real_scores3 := hPre_real_scores3)
-- ==== Pre_real_scores.lean ====
abbrev S16384x1024 : Shape := ⟨2, ![16384, 1024]⟩
abbrev S8 : Shape := ⟨1, ![8]⟩
abbrev S16384x512 : Shape := ⟨2, ![16384, 512]⟩
abbrev S16384x128 : Shape := ⟨2, ![16384, 128]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S16384x128 : S_.BroadcastsInDim S16384x128 (![] : Fin 0 → Fin S16384x128.rank)
  bcast_S_S8 : S_.BroadcastsInDim S8 (![] : Fin 0 → Fin S8.rank)

variable [Facts]

def fn {F : FTy → Type} [FloatOps F] (main_arg0 : FVec F S16384x1024 .f32) (main_arg1 : FVec F S8 .f32) (main_arg2 : FVec F S16384x512 .bf16) (main_arg3 : FVec F S16384x128 .f32) (main_arg4 : FVec F S16384x128 .f32) (main_arg5 : FVec F S16384x512 .bf16) (main_arg6 : FVec F S16384x1024 .f32) (main_arg7 : FVec F S16384x1024 .f32) (main_arg8 : FVec F S512x1024 .bf16) (main_arg9 : FVec F S512x1024 .bf16) (main_arg10 : FVec F S1024x1024 .bf16) (main_arg11 : FVec F S1x1024 .f32) (main_arg12 : FVec F S1024x512 .bf16) : IVec S16384x512 1 × IVec S16384x128 1 × IVec S8 1 :=
  let main_v0 : FVec F S16384x512 .f32 := (extf .f32 · bitsLt_bf16_f32) main_arg2
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_cst_0 : FVec F S_ .f32 := constant S_ .f32 0xFF800000#32
  let main_v3 : FVec F S16384x512 .f32 := broadcastInDim S16384x512 ![] bcast_S_S16384x512 main_cst_0
  let main_v4 : IVec S16384x512 1 := cmpf .ogt main_v0 main_v3
  let main_v5 : IVec S16384x512 1 := andi main_v2 main_v4
  let main_cst_1 : FVec F S_ .f32 := constant S_ .f32 0x7F800000#32
  let main_v6 : FVec F S16384x128 .f32 := broadcastInDim S16384x128 ![] bcast_S_S16384x128 main_cst_1
  let main_v7 : IVec S16384x128 1 := cmpf .olt main_arg3 main_v6
  let main_cst_2 : FVec F S_ .f32 := constant S_ .f32 0xFF800000#32
  let main_v8 : FVec F S16384x128 .f32 := broadcastInDim S16384x128 ![] bcast_S_S16384x128 main_cst_2
  let main_v9 : IVec S16384x128 1 := cmpf .ogt main_arg3 main_v8
  let main_v10 : IVec S16384x128 1 := andi main_v7 main_v9
  let main_cst_3 : FVec F S_ .f32 := constant S_ .f32 0x7F800000#32
  let main_v11 : FVec F S8 .f32 := broadcastInDim S8 ![] bcast_S_S8 main_cst_3
  let main_v12 : IVec S8 1 := cmpf .olt main_arg1 main_v11
  (main_v5, main_v10, main_v12)
-- ==== Pre_real_scores3.lean ====
abbrev S16384x1024 : Shape := ⟨2, ![16384, 1024]⟩
abbrev S16384x512 : Shape := ⟨2, ![16384, 512]⟩
abbrev S2048x512 : Shape := ⟨2, ![2048, 512]⟩
abbrev S8x8x2816 : Shape := ⟨3, ![8, 8, 2816]⟩
abbrev S512x1024 : Shape := ⟨2, ![512, 1024]⟩
abbrev S1x1024 : Shape := ⟨2, ![1, 1024]⟩
abbrev S1024x5632 : Shape := ⟨2, ![1024, 5632]⟩
abbrev S3x2816 : Shape := ⟨2, ![3, 2816]⟩
abbrev S2816x1024 : Shape := ⟨2, ![2816, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S2048x512 : S_.BroadcastsInDim S2048x512 (![] : Fin 0 → Fin S2048x512.rank)

variable [Facts]

def fn {F : FTy → Type} [FloatOps F] (main_arg0 : FVec F S16384x1024 .f32) (main_arg1 : FVec F S16384x512 .bf16) (main_arg2 : FVec F S2048x512 .f32) (main_arg3 : FVec F S2048x512 .f32) (main_arg4 : FVec F S8x8x2816 .f32) (main_arg5 : FVec F S512x1024 .bf16) (main_arg6 : FVec F S1x1024 .f32) (main_arg7 : FVec F S1024x5632 .bf16) (main_arg8 : FVec F S3x2816 .f32) (main_arg9 : FVec F S2816x1024 .bf16) (main_arg10 : FVec F S1x1024 .f32) : IVec S16384x512 1 × IVec S2048x512 1 :=
  let main_v0 : FVec F S16384x512 .f32 := (extf .f32 · bitsLt_bf16_f32) main_arg1
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_cst_0 : FVec F S_ .f32 := constant S_ .f32 0xFF800000#32
  let main_v3 : FVec F S16384x512 .f32 := broadcastInDim S16384x512 ![] bcast_S_S16384x512 main_cst_0
  let main_v4 : IVec S16384x512 1 := cmpf .ogt main_v0 main_v3
  let main_v5 : IVec S16384x512 1 := andi main_v2 main_v4
  let main_cst_1 : FVec F S_ .f32 := constant S_ .f32 0x7F800000#32
  let main_v6 : FVec F S2048x512 .f32 := broadcastInDim S2048x512 ![] bcast_S_S2048x512 main_cst_1
  let main_v7 : IVec S2048x512 1 := cmpf .olt main_arg2 main_v6
  let main_cst_2 : FVec F S_ .f32 := constant S_ .f32 0xFF800000#32
  let main_v8 : FVec F S2048x512 .f32 := broadcastInDim S2048x512 ![] bcast_S_S2048x512 main_cst_2
  let main_v9 : IVec S2048x512 1 := cmpf .ogt main_arg2 main_v8
  let main_v10 : IVec S2048x512 1 := andi main_v7 main_v9
  (main_v5, main_v10)
-- ==== Kernel.lean ====
abbrev S16384x1024 : Shape := ⟨2, ![16384, 1024]⟩
abbrev S8 : Shape := ⟨1, ![8]⟩
abbrev S16384x512 : Shape := ⟨2, ![16384, 512]⟩
abbrev S16384x128 : Shape := ⟨2, ![16384, 128]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S512x512 : Shape := ⟨2, ![512, 512]⟩
abbrev S128x128 : Shape := ⟨2, ![128, 128]⟩
abbrev S512x128 : Shape := ⟨2, ![512, 128]⟩
abbrev S640x128 : Shape := ⟨2, ![640, 128]⟩
abbrev S512x1 : Shape := ⟨2, ![512, 1]⟩
abbrev S1 : Shape := ⟨1, ![1]⟩
abbrev S256x128 : Shape := ⟨2, ![256, 128]⟩
abbrev S512x256 : Shape := ⟨2, ![512, 256]⟩
abbrev S512 : Shape := ⟨1, ![512]⟩
abbrev S128x512 : Shape := ⟨2, ![128, 512]⟩

abbrev nBuf : Space → Nat
  | .hbm => 15
  | .vmem => 27
  | .smem => 1
  | _ => 0

abbrev bufTy : (tb : Table) → Fin (tcTables nBuf tb) → BufTy
  | .hbm, ⟨0, _⟩ => ⟨S16384x1024, .f32⟩
  | .hbm, ⟨1, _⟩ => ⟨S8, .f32⟩
  | .hbm, ⟨2, _⟩ => ⟨S16384x512, .bf16⟩
  | .hbm, ⟨3, _⟩ => ⟨S16384x128, .f32⟩
  | .hbm, ⟨4, _⟩ => ⟨S16384x128, .f32⟩
  | .hbm, ⟨5, _⟩ => ⟨S16384x512, .bf16⟩
  | .hbm, ⟨6, _⟩ => ⟨S16384x1024, .f32⟩
  | .hbm, ⟨7, _⟩ => ⟨S16384x1024, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S1024x512, .bf16⟩
  | .hbm, ⟨13, _⟩ => ⟨S16384x1024, .f32⟩
  | .hbm, ⟨14, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x1024, .f32⟩
  | .local _ .vmem, ⟨22, _⟩ => ⟨S1024x512, .bf16⟩
  | .local _ .vmem, ⟨23, _⟩ => ⟨S512x1024, .f32⟩
  | .local _ .vmem, ⟨24, _⟩ => ⟨S512x1024, .f32⟩
  | .local _ .vmem, ⟨25, _⟩ => ⟨S512x512, .bf16⟩
  | .local _ .vmem, ⟨26, _⟩ => ⟨S512x512, .bf16⟩
  | .local _ .smem, ⟨0, _⟩ => ⟨S8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S16384x1024 : Shape := ⟨2, ![16384, 1024]⟩
abbrev S8 : Shape := ⟨1, ![8]⟩
abbrev S16384x512 : Shape := ⟨2, ![16384, 512]⟩
abbrev S16384x128 : Shape := ⟨2, ![16384, 128]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S8x2048x8x64 : Shape := ⟨4, ![8, 2048, 8, 64]⟩
abbrev S8x2048x2x64 : Shape := ⟨4, ![8, 2048, 2, 64]⟩
abbrev S8x16x128x2x4x64 : Shape := ⟨6, ![8, 16, 128, 2, 4, 64]⟩
abbrev S16 : Shape := ⟨1, ![16]⟩
abbrev S16x1 : Shape := ⟨2, ![16, 1]⟩
abbrev S_ : Shape := ⟨0, ![]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S8x16x128x2x64 : Shape := ⟨5, ![8, 16, 128, 2, 64]⟩
abbrev S8x1x128x2x64 : Shape := ⟨5, ![8, 1, 128, 2, 64]⟩
abbrev S8x15x128x2x64 : Shape := ⟨5, ![8, 15, 128, 2, 64]⟩
abbrev S8x16x256x2x64 : Shape := ⟨5, ![8, 16, 256, 2, 64]⟩
abbrev S16x128x1 : Shape := ⟨3, ![16, 128, 1]⟩
abbrev S16x1x256 : Shape := ⟨3, ![16, 1, 256]⟩
abbrev S16x128x256 : Shape := ⟨3, ![16, 128, 256]⟩
abbrev S8x16x2x256x128x4 : Shape := ⟨6, ![8, 16, 2, 256, 128, 4]⟩
abbrev S8x16x2x4x128x256 : Shape := ⟨6, ![8, 16, 2, 4, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S8x16x2x4x128 : Shape := ⟨5, ![8, 16, 2, 4, 128]⟩
abbrev S8x16x2x4x128x1 : Shape := ⟨6, ![8, 16, 2, 4, 128, 1]⟩
abbrev S8x16x2x64x4x128 : Shape := ⟨6, ![8, 16, 2, 64, 4, 128]⟩
abbrev S8x2048x512 : Shape := ⟨3, ![8, 2048, 512]⟩
abbrev S16384 : Shape := ⟨1, ![16384]⟩
abbrev S16384x1 : Shape := ⟨2, ![16384, 1]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S8, .f32⟩
  | 2 => ⟨S16384x512, .bf16⟩
  | 3 => ⟨S16384x128, .f32⟩
  | 4 => ⟨S16384x128, .f32⟩
  | 5 => ⟨S16384x512, .bf16⟩
  | 6 => ⟨S16384x1024, .f32⟩
  | 7 => ⟨S16384x1024, .f32⟩
  | 8 => ⟨S512x1024, .bf16⟩
  | 9 => ⟨S512x1024, .bf16⟩
  | 10 => ⟨S1024x1024, .bf16⟩
  | 11 => ⟨S1x1024, .f32⟩
  | 12 => ⟨S1024x512, .bf16⟩
  | 13 => ⟨S16384x512, .f32⟩
  | 14 => ⟨S8x2048x8x64, .f32⟩
  | 15 => ⟨S8x2048x2x64, .f32⟩
  | 16 => ⟨S8x2048x2x64, .f32⟩
  | 17 => ⟨S8x16x128x2x4x64, .f32⟩
  | 18 => ⟨S16, .i32⟩
  | 19 => ⟨S16x1, .i32⟩
  | 20 => ⟨S_, .i32⟩
  | 21 => ⟨S16x1, .i32⟩
  | 22 => ⟨S16x1, .i32⟩
  | 23 => ⟨S128, .i32⟩
  | 24 => ⟨S1x128, .i32⟩
  | 25 => ⟨S16x128, .i32⟩
  | 26 => ⟨S16x128, .i32⟩
  | 27 => ⟨S16x128, .i32⟩
  | 28 => ⟨S256, .i32⟩
  | 29 => ⟨S_, .i32⟩
  | 30 => ⟨S256, .i32⟩
  | 31 => ⟨S256, .i32⟩
  | 32 => ⟨S1x256, .i32⟩
  | 33 => ⟨S16x256, .i32⟩
  | 34 => ⟨S16x256, .i32⟩
  | 35 => ⟨S16x256, .i32⟩
  | 36 => ⟨S8x16x128x2x64, .f32⟩
  | 37 => ⟨S8x1x128x2x64, .f32⟩
  | 38 => ⟨S_, .f32⟩
  | 39 => ⟨S8x1x128x2x64, .f32⟩
  | 40 => ⟨S8x15x128x2x64, .f32⟩
  | 41 => ⟨S8x16x128x2x64, .f32⟩
  | 42 => ⟨S8x16x256x2x64, .f32⟩
  | 43 => ⟨S8x16x128x2x64, .f32⟩
  | 44 => ⟨S8x1x128x2x64, .f32⟩
  | 45 => ⟨S_, .f32⟩
  | 46 => ⟨S8x1x128x2x64, .f32⟩
  | 47 => ⟨S8x15x128x2x64, .f32⟩
  | 48 => ⟨S8x16x128x2x64, .f32⟩
  | 49 => ⟨S8x16x256x2x64, .f32⟩
  | 50 => ⟨S16x128x1, .i32⟩
  | 51 => ⟨S16x1x256, .i32⟩
  | 52 => ⟨S16x128x256, .i32⟩
  | 53 => ⟨S16x128x256, .i32⟩
  | 54 => ⟨S16x128x256, .i32⟩
  | 55 => ⟨S_, .i32⟩
  | 56 => ⟨S16x128x256, .i32⟩
  | 57 => ⟨S16x128x256, .i1⟩
  | 58 => ⟨S_, .i32⟩
  | 59 => ⟨S16x128x256, .i32⟩
  | 60 => ⟨S16x128x256, .i1⟩
  | 61 => ⟨S16x128x256, .i1⟩
  | 62 => ⟨S16x1x256, .i32⟩
  | 63 => ⟨S_, .i32⟩
  | 64 => ⟨S16x1x256, .i32⟩
  | 65 => ⟨S16x1x256, .i1⟩
  | 66 => ⟨S16x128x256, .i1⟩
  | 67 => ⟨S16x128x256, .i1⟩
  | 68 => ⟨S8x16x2x256x128x4, .f32⟩
  | 69 => ⟨S8x16x2x4x128x256, .f32⟩
  | 70 => ⟨S_, .f32⟩
  | 71 => ⟨S8x16x2x4x128x256, .f32⟩
  | 72 => ⟨S8x16x2x4x128x256, .f32⟩
  | 73 => ⟨S1x16x1x1x128x256, .i1⟩
  | 74 => ⟨S_, .f32⟩
  | 75 => ⟨S_, .f32⟩
  | 76 => ⟨S8x16x2x4x128x256, .i1⟩
  | 77 => ⟨S8x16x2x4x128x256, .f32⟩
  | 78 => ⟨S8x16x2x4x128x256, .f32⟩
  | 79 => ⟨S2x4, .f32⟩
  | 80 => ⟨S1x1x2x4x1x1, .f32⟩
  | 81 => ⟨S_, .f32⟩
  | 82 => ⟨S8x16x2x4x128, .f32⟩
  | 83 => ⟨S8x16x2x4x128x1, .f32⟩
  | 84 => ⟨S8x16x2x4x128x1, .f32⟩
  | 85 => ⟨S8x16x2x4x128x1, .f32⟩
  | 86 => ⟨S8x16x2x4x128x256, .f32⟩
  | 87 => ⟨S8x16x2x4x128x256, .f32⟩
  | 88 => ⟨S8x16x2x4x128x256, .f32⟩
  | 89 => ⟨S_, .f32⟩
  | 90 => ⟨S8x16x2x4x128, .f32⟩
  | 91 => ⟨S8x16x2x4x128x1, .f32⟩
  | 92 => ⟨S8x16x2x4x128x1, .f32⟩
  | 93 => ⟨S8x16x2x4x128x1, .f32⟩
  | 94 => ⟨S8x16x2x4x128x1, .f32⟩
  | 95 => ⟨S8x16x2x4x128x1, .f32⟩
  | 96 => ⟨S8x16x2x4x128x256, .f32⟩
  | 97 => ⟨S8x16x2x4x128x256, .f32⟩
  | 98 => ⟨S8x16x2x64x4x128, .f32⟩
  | 99 => ⟨S8x16x128x2x4x64, .f32⟩
  | 100 => ⟨S8x2048x512, .f32⟩
  | 101 => ⟨S16384x512, .f32⟩
  | 102 => ⟨S16384x512, .f32⟩
  | 103 => ⟨S512x1024, .f32⟩
  | 104 => ⟨S512x1024, .f32⟩
  | 105 => ⟨S1024x1024, .f32⟩
  | 106 => ⟨S1024x512, .f32⟩
  | 107 => ⟨S16384x1024, .f32⟩
  | 108 => ⟨S16384x1024, .f32⟩
  | 109 => ⟨S_, .f32⟩
  | 110 => ⟨S16384x1024, .f32⟩
  | 111 => ⟨S16384x1024, .f32⟩
  | 112 => ⟨S_, .f32⟩
  | 113 => ⟨S16384x1024, .f32⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S_, .f32⟩
  | 120 => ⟨S16384x1024, .f32⟩
  | 121 => ⟨S16384x1024, .f32⟩
  | 122 => ⟨S_, .f32⟩
  | 123 => ⟨S16384x1024, .f32⟩
  | 124 => ⟨S16384x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S16384x1, .f32⟩
  | 13 => ⟨S16384x1024, .f32⟩
  | 14 => ⟨S16384x1024, .f32⟩
  | 15 => ⟨S16384x1024, .f32⟩
  | 16 => ⟨S16384x1024, .f32⟩
  | 17 => ⟨S16384x512, .f32⟩
  | 18 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_2 : Ref sig .tc := ⟨.hbm, 55, rfl⟩
abbrev main_v38 : Ref sig .tc := ⟨.hbm, 56, rfl⟩
abbrev main_v39 : Ref sig .tc := ⟨.hbm, 57, rfl⟩
abbrev main_c_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_9 : Ref sig .tc := ⟨.hbm, 109, rfl⟩
abbrev main_v82 : Ref sig .tc := ⟨.hbm, 110, rfl⟩
abbrev main_v83 : Ref sig .tc := ⟨.hbm, 111, rfl⟩
abbrev main_cst_10 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_11 : Ref sig .tc := ⟨.hbm, 119, rfl⟩
abbrev main_v90 : Ref sig .tc := ⟨.hbm, 120, rfl⟩
abbrev main_v91 : Ref sig .tc := ⟨.hbm, 121, rfl⟩
abbrev main_cst_12 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_13 : Ref sig .tc := ⟨.hbm, 131, rfl⟩
abbrev main_v100 : Ref sig .tc := ⟨.hbm, 132, rfl⟩
abbrev main_v101 : Ref sig .tc := ⟨.hbm, 133, rfl⟩
abbrev main_cst_14 : Ref sig .tc := ⟨.hbm, 134, rfl⟩
abbrev main_v102 : Ref sig .tc := ⟨.hbm, 135, rfl⟩
abbrev main_v103 : Ref sig .tc := ⟨.hbm, 136, rfl⟩
abbrev main_cst_15 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x1024 : Shape := ⟨2, ![1024, 1024]⟩
abbrev S2048x512 : Shape := ⟨2, ![2048, 512]⟩
abbrev S8192x128 : Shape := ⟨2, ![8192, 128]⟩
abbrev S512x1024 : Shape := ⟨2, ![512, 1024]⟩
abbrev S512x512 : Shape := ⟨2, ![512, 512]⟩
abbrev S2048x128 : Shape := ⟨2, ![2048, 128]⟩
abbrev S512 : Shape := ⟨1, ![512]⟩
abbrev S512x1 : Shape := ⟨2, ![512, 1]⟩
abbrev S512x128 : Shape := ⟨2, ![512, 128]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .bf16⟩
  | .hbm, ⟨3, _⟩ => ⟨S2048x512, .f32⟩
  | .hbm, ⟨4, _⟩ => ⟨S2048x512, .f32⟩
  | .hbm, ⟨5, _⟩ => ⟨S8192x128, .f32⟩
  | .hbm, ⟨6, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S2048x512 : Shape := ⟨2, ![2048, 512]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1024x1024, .f32⟩
  | .hbm, ⟨19, _⟩ => ⟨S2048x1024, .f32⟩
  | .hbm, ⟨20, _⟩ => ⟨S2048x512, .f32⟩
  | .hbm, ⟨21, _⟩ => ⟨S2048x512, .f32⟩
  | .hbm, ⟨22, _⟩ => ⟨S8192x128, .f32⟩
  | .hbm, ⟨23, _⟩ => ⟨S8192x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S2048x512 : Shape := ⟨2, ![2048, 512]⟩
abbrev S8x8x2816 : Shape := ⟨3, ![8, 8, 2816]⟩
abbrev S512x1024 : Shape := ⟨2, ![512, 1024]⟩
abbrev S1x1024 : Shape := ⟨2, ![1, 1024]⟩
abbrev S1024x5632 : Shape := ⟨2, ![1024, 5632]⟩
abbrev S3x2816 : Shape := ⟨2, ![3, 2816]⟩
abbrev S2816x1024 : Shape := ⟨2, ![2816, 1024]⟩
abbrev S512x512 : Shape := ⟨2, ![512, 512]⟩
abbrev S256x512 : Shape := ⟨2, ![256, 512]⟩
abbrev S1x8x2816 : Shape := ⟨3, ![1, 8, 2816]⟩
abbrev S1024x2816 : Shape := ⟨2, ![1024, 2816]⟩
abbrev S520x2816 : Shape := ⟨2, ![520, 2816]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x2816 : Shape := ⟨2, ![512, 2816]⟩
abbrev S8x2816 : Shape := ⟨2, ![8, 2816]⟩
abbrev S1x2816 : Shape := ⟨2, ![1, 2816]⟩

abbrev nBuf : Space → Nat
  | .hbm => 13
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S2048x512, .f32⟩
  | .hbm, ⟨3, _⟩ => ⟨S2048x512, .f32⟩
  | .hbm, ⟨4, _⟩ => ⟨S8x8x2816, .f32⟩
  | .hbm, ⟨5, _⟩ => ⟨S512x1024, .bf16⟩
  | .hbm, ⟨6, _⟩ => ⟨S1x1024, .f32⟩
  | .hbm, ⟨7, _⟩ => ⟨S1024x5632, .bf16⟩
  | .hbm, ⟨8, _⟩ => ⟨S3x2816, .f32⟩
  | .hbm, ⟨9, _⟩ => ⟨S2816x1024, .bf16⟩
  | .hbm, ⟨10, _⟩ => ⟨S1x1024, .f32⟩
  | .hbm, ⟨11, _⟩ => ⟨S16384x1024, .f32⟩
  | .hbm, ⟨12, _⟩ => ⟨S8x8x2816, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x8x2816, .f32⟩
  | .local _ .vmem, ⟨9, _⟩ => ⟨S1x8x2816, .f32⟩
  | .local _ .vmem, ⟨10, _⟩ => ⟨S512x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S3x2816, .f32⟩
  | .local _ .vmem, ⟨15, _⟩ => ⟨S2816x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x8x2816, .f32⟩
  | .local _ .vmem, ⟨20, _⟩ => ⟨S1x8x2816, .f32⟩
  | .local _ .vmem, ⟨21, _⟩ => ⟨S520x2816, .f32⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference3Ideal.lean ====
abbrev S16384x1024 : Shape := ⟨2, ![16384, 1024]⟩
abbrev S16384x512 : Shape := ⟨2, ![16384, 512]⟩
abbrev S2048x512 : Shape := ⟨2, ![2048, 512]⟩
abbrev S8x8x2816 : Shape := ⟨3, ![8, 8, 2816]⟩
abbrev S512x1024 : Shape := ⟨2, ![512, 1024]⟩
abbrev S1x1024 : Shape := ⟨2, ![1, 1024]⟩
abbrev S1024x5632 : Shape := ⟨2, ![1024, 5632]⟩
abbrev S3x2816 : Shape := ⟨2, ![3, 2816]⟩
abbrev S2816x1024 : Shape := ⟨2, ![2816, 1024]⟩
abbrev S8x2048x1024 : Shape := ⟨3, ![8, 2048, 1024]⟩
abbrev S8x2048x4x128 : Shape := ⟨4, ![8, 2048, 4, 128]⟩
abbrev S8x256x4x128 : Shape := ⟨4, ![8, 256, 4, 128]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x512 : Shape := ⟨3, ![8, 2048, 512]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S2048x512, .f32⟩
  | .hbm, ⟨3, _⟩ => ⟨S2048x512, .f32⟩
  | .hbm, ⟨4, _⟩ => ⟨S8x8x2816, .f32⟩
  | .hbm, ⟨5, _⟩ => ⟨S512x1024, .bf16⟩
  | .hbm, ⟨6, _⟩ => ⟨S1x1024, .f32⟩
  | .hbm, ⟨7, _⟩ => ⟨S1024x5632, .bf16⟩
  | .hbm, ⟨8, _⟩ => ⟨S3x2816, .f32⟩
  | .hbm, ⟨9, _⟩ => ⟨S2816x1024, .bf16⟩
  | .hbm, ⟨10, _⟩ => ⟨S1x1024, .f32⟩
  | .hbm, ⟨11, _⟩ => ⟨S8x2048x1024, .f32⟩
  | .hbm, ⟨12, _⟩ => ⟨S16384x512, .f32⟩
  | .hbm, ⟨13, _⟩ => ⟨S8x2048x4x128, .f32⟩
  | .hbm, ⟨14, _⟩ => ⟨S8x256x4x128, .f32⟩
  | .hbm, ⟨15, _⟩ => ⟨S8x256x4x128, .f32⟩
  | .hbm, ⟨16, _⟩ => ⟨S8x4x2048x256, .f32⟩
  | .hbm, ⟨17, _⟩ => ⟨S_, .f32⟩
  | .hbm, ⟨18, _⟩ => ⟨S8x4x2048x256, .f32⟩
  | .hbm, ⟨19, _⟩ => ⟨S8x4x2048x256, .f32⟩
  | .hbm, ⟨20, _⟩ => ⟨S_, .f32⟩
  | .hbm, ⟨21, _⟩ => ⟨S8x4x2048, .f32⟩
  | .hbm, ⟨22, _⟩ => ⟨S_, .f32⟩
  | .hbm, ⟨23, _⟩ => ⟨S8x4x2048, .f32⟩
  | .hbm, ⟨24, _⟩ => ⟨S8x4x2048, .f32⟩
  | .hbm, ⟨25, _⟩ => ⟨S8x4x2048x1, .f32⟩
  | .hbm, ⟨26, _⟩ => ⟨S8x4x2048x256, .f32⟩
  | .hbm, ⟨27, _⟩ => ⟨S8x4x2048x256, .f32⟩
  | .hbm, ⟨28, _⟩ => ⟨S8x4x2048x256, .f32⟩
  | .hbm, ⟨29, _⟩ => ⟨S_, .f32⟩
  | .hbm, ⟨30, _⟩ => ⟨S8x4x2048, .f32⟩
  | .hbm, ⟨31, _⟩ => ⟨S8x4x2048x1, .f32⟩
  | .hbm, ⟨32, _⟩ => ⟨S8x4x2048x256, .f32⟩
  | .hbm, ⟨33, _⟩ => ⟨S8x4x2048x256, .f32⟩
  | .hbm, ⟨34, _⟩ => ⟨S8x4x128x2048, .f32⟩
  | .hbm, ⟨35, _⟩ => ⟨S8x2048x4x128, .f32⟩
  | .hbm, ⟨36, _⟩ => ⟨S8x2048x512, .f32⟩
  | .hbm, ⟨37, _⟩ => ⟨S512x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | .hbm, ⟨56, _⟩ => ⟨S1024x5632, .f32⟩
  | .hbm, ⟨57, _⟩ => ⟨S8x2048x5632, .f32⟩
  | .hbm, ⟨58, _⟩ => ⟨S8x2048x2816, .f32⟩
  | .hbm, ⟨59, _⟩ => ⟨S8x2048x2816, .f32⟩
  | .hbm, ⟨60, _⟩ => ⟨S8x8x2816, .f32⟩
  | .hbm, ⟨61, _⟩ => ⟨S8x2x2816, .f32⟩
  | .hbm, ⟨62, _⟩ => ⟨S8x2050x2816, .f32⟩
  | .hbm, ⟨63, _⟩ => ⟨S8x2048x2816, .f32⟩
  | .hbm, ⟨64, _⟩ => ⟨S1x2816, .f32⟩
  | .hbm, ⟨65, _⟩ => ⟨S2816, .f32⟩
  | .hbm, ⟨66, _⟩ => ⟨S1x1x2816, .f32⟩
  | .hbm, ⟨67, _⟩ => ⟨S8x2048x2816, .f32⟩
  | .hbm, ⟨68, _⟩ => ⟨S8x2048x2816, .f32⟩
  | .hbm, ⟨69, _⟩ => ⟨S_, .f32⟩
  | .hbm, ⟨70, _⟩ => ⟨S8x2048x2816, .f32⟩
  | .hbm, ⟨71, _⟩ => ⟨S8x2048x2816, .f32⟩
  | .hbm, ⟨72, _⟩ => ⟨S8x2048x2816, .f32⟩
  | .hbm, ⟨73, _⟩ => ⟨S1x2816, .f32⟩
  | .hbm, ⟨74, _⟩ => ⟨S2816, .f32⟩
  | .hbm, ⟨75, _⟩ => ⟨S1x1x2816, .f32⟩
  | .hbm, ⟨76, _⟩ => ⟨S8x2048x2816, .f32⟩
  | .hbm, ⟨77, _⟩ => ⟨S8x2048x2816, .f32⟩
  | .hbm, ⟨78, _⟩ => ⟨S8x2048x2816, .f32⟩
  | .hbm, ⟨79, _⟩ => ⟨S8x2048x2816, .f32⟩
  | .hbm, ⟨80, _⟩ => ⟨S1x2816, .f32⟩
  | .hbm, ⟨81, _⟩ => ⟨S2816, .f32⟩
  | .hbm, ⟨82, _⟩ => ⟨S1x1x2816, .f32⟩
  | .hbm, ⟨83, _⟩ => ⟨S8x2048x2816, .f32⟩
  | .hbm, ⟨84, _⟩ => ⟨S8x2048x2816, .f32⟩
  | .hbm, ⟨85, _⟩ => ⟨S8x2048x2816, .f32⟩
  | .hbm, ⟨86, _⟩ => ⟨S8x2048x2816, .f32⟩
  | .hbm, ⟨87, _⟩ => ⟨S8x2048x2816, .f32⟩
  | .hbm, ⟨88, _⟩ => ⟨S_, .f32⟩
  | .hbm, ⟨89, _⟩ => ⟨S8x2048x2816, .f32⟩
  | .hbm, ⟨90, _⟩ => ⟨S8x2048x2816, .f32⟩
  | .hbm, ⟨91, _⟩ => ⟨S_, .f32⟩
  | .hbm, ⟨92, _⟩ => ⟨S8x2048x2816, .f32⟩
  | .hbm, ⟨93, _⟩ => ⟨S8x2048x2816, .f32⟩
  | .hbm, ⟨94, _⟩ => ⟨S8x2048x2816, .f32⟩
  | .hbm, ⟨95, _⟩ => ⟨S8x2048x2816, .f32⟩
  | .hbm, ⟨96, _⟩ => ⟨S2816x1024, .f32⟩
  | .hbm, ⟨97, _⟩ => ⟨S8x2048x1024, .f32⟩
  | .hbm, ⟨98, _⟩ => ⟨S8x2048x1024, .f32⟩
  | .hbm, ⟨99, _⟩ => ⟨S8x2048x1024, .f32⟩
  | .hbm, ⟨100, _⟩ => ⟨S_, .f32⟩
  | .hbm, ⟨101, _⟩ => ⟨S8x2048, .f32⟩
  | .hbm, ⟨102, _⟩ => ⟨S8x2048x1, .f32⟩
  | .hbm, ⟨103, _⟩ => ⟨S_, .f32⟩
  | .hbm, ⟨104, _⟩ => ⟨S8x2048x1, .f32⟩
  | .hbm, ⟨105, _⟩ => ⟨S8x2048x1, .f32⟩
  | .hbm, ⟨106, _⟩ => ⟨S_, .f32⟩
  | .hbm, ⟨107, _⟩ => ⟨S8x2048x1, .f32⟩
  | .hbm, ⟨108, _⟩ => ⟨S8x2048x1, .f32⟩
  | .hbm, ⟨109, _⟩ => ⟨S8x2048x1, .f32⟩
  | .hbm, ⟨110, _⟩ => ⟨S8x2048x1024, .f32⟩
  | .hbm, ⟨111, _⟩ => ⟨S8x2048x1024, .f32⟩
  | .hbm, ⟨112, _⟩ => ⟨S1x1x1024, .f32⟩
  | .hbm, ⟨113, _⟩ => ⟨S8x2048x1024, .f32⟩
  | .hbm, ⟨114, _⟩ => ⟨S8x2048x1024, .f32⟩
  | .hbm, ⟨115, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_cst_8 : Ref sig .tc := ⟨.hbm, 103, rfl⟩
abbrev main_v75 : Ref sig .tc := ⟨.hbm, 104, rfl⟩
abbrev main_v76 : Ref sig .tc := ⟨.hbm, 105, rfl⟩
abbrev main_cst_9 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== Proof.RefFrames.lean ====
module

public import proofs.«01_k».proof.Defs
public import proofs.«01_k».proof.Proof.Gen.ReferenceIdeal.Run
public import proofs.«01_k».proof.Proof.Gen.Reference3Ideal.Run
public import Idealize.ShloMosaic.Lib.Quiescent
public import Idealize.ShloMosaic.Lib.Claim

@[expose] public section

noncomputable section

open Idealize.ShloMosaic Idealize.ShloMosaic.TcCoe Idealize.SL.Sem

namespace Cert.Merge

/-- The merge's reference runs, keeps its arguments and leaves every semaphore at zero. -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0) :=
  (θ_run Cert.ReferenceIdeal.defs _ _).mono (fun r h => ⟨fun c => (h c).2.2, sem_eq_zero_of_no_sems (by decide) r.2⟩) (Cert.ReferenceIdeal.Value.run (F := Ideal) m ρ)

end Cert.Merge

namespace Cert.Ffn

/-- The feed-forward reference runs, keeps its arguments and leaves every semaphore at zero. -/
theorem ref_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0) :=
  (θ_run Cert.Reference3Ideal.defs _ _).mono (fun r h => ⟨fun c => (h c).2.2, sem_eq_zero_of_no_sems (by decide) r.2⟩) (Cert.Reference3Ideal.Value.run (F := Ideal) m ρ)

end Cert.Ffn

end
-- ==== Proof.FfnRef.lean ====
module

public import proofs.«01_k».proof.Proof.Gen.Reference3Ideal.Read
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

namespace Cert.Ffn.Ref
open Cert.Reference3Ideal Cert.Reference3Ideal.Gen Cert.Reference3Ideal.Read

variable (x0 : (⟨S16384x1024, .f32⟩ : BufTy).Contents (Elt Ideal)) (x1 : (⟨S16384x512, .bf16⟩ : BufTy).Contents (Elt Ideal)) (x2 : (⟨S2048x512, .f32⟩ : BufTy).Contents (Elt Ideal)) (x3 : (⟨S2048x512, .f32⟩ : BufTy).Contents (Elt Ideal)) (x4 : (⟨S8x8x2816, .f32⟩ : BufTy).Contents (Elt Ideal)) (x5 : (⟨S512x1024, .bf16⟩ : BufTy).Contents (Elt Ideal)) (x6 : (⟨S1x1024, .f32⟩ : BufTy).Contents (Elt Ideal)) (x7 : (⟨S1024x5632, .bf16⟩ : BufTy).Contents (Elt Ideal)) (x8 : (⟨S3x2816, .f32⟩ : BufTy).Contents (Elt Ideal)) (x9 : (⟨S2816x1024, .bf16⟩ : BufTy).Contents (Elt Ideal)) (x10 : (⟨S1x1024, .f32⟩ : BufTy).Contents (Elt Ideal))

theorem v7_apply (b : Fin 8) (h : Fin 4) (R : Fin 2048) (l : Fin 256) :
    val_main_v7 (F := Ideal) x1 x2 (ix4 b h R l)
      = (∑ x : Fin 128, x1 (ix2 ⟨b.val * 2048 + R.val, by omega⟩ ⟨h.val * 128 + x.val, by omega⟩) * x2 (ix2 ⟨b.val * 256 + l.val, by omega⟩ ⟨h.val * 128 + x.val, by omega⟩)) *
      Ideal.ofBits FTy.f32 0x3DB504F3#32 := by
  pointwise [val_main_v7, val_main_v6, val_main_v5, val_main_v3, val_main_v2, val_main_v1, val_main_cst]

/-- The pattern of f32's minus infinity denotes the least extended real. -/
theorem ofBits_bot : Ideal.ofBits FTy.f32 0xFF800000#32 = ⊥ := by simp [Ideal.ofBits, Ideal.ieee]

/-- A host maximum over the last of four axes, at an index: the fold over that axis. -/
theorem hostMax_r4 {n0 n1 n2 n3 : ℕ} {u : Shape} (s : FVec Ideal ⟨4, ![n0, n1, n2, n3]⟩ .f32) (c : FVec Ideal u .f32) (hu : 0 < u.numel)
    (h : (⟨4, ![n0, n1, n2, n3]⟩ : Shape).ReducesTo [3] ⟨3, ![n0, n1, n2]⟩) (i : Fin n0) (j : Fin n1) (k : Fin n2) :
    Host.reduce FloatOps.maximumf s c h hu (ix3 i j k)
      = Finset.fold max (c (Shape.Idx.first hu)) (fun x => s (ix4 i j k x)) Finset.univ := by
  pointwise

theorem v8_apply (b : Fin 8) (h : Fin 4) (R : Fin 2048) :
    val_main_v8 (F := Ideal) x1 x2 (ix3 b h R)
      = Finset.fold max (Ideal.ofBits FTy.f32 0xFF800000#32) (fun x => val_main_v7 (F := Ideal) x1 x2 (ix4 b h R x)) Finset.univ := by
  unfold val_main_v8
  exact hostMax_r4 _ _ _ _ b h R
theorem v14_apply (b : Fin 8) (h : Fin 4) (R : Fin 2048) (l : Fin 256) :
    val_main_v14 (F := Ideal) x1 x2 (ix4 b h R l)
      = Ideal.exp (val_main_v7 (F := Ideal) x1 x2 (ix4 b h R l) -
          max ⊥ (Finset.fold max ⊥ (fun x => val_main_v7 (F := Ideal) x1 x2 (ix4 b h R x)) Finset.univ)) := by
  have e := v8_apply (x1 := x1) (x2 := x2) b h R
  rw [ofBits_bot] at e
  rw [← e]
  have i1 : idx_main_v11 (idx_main_v12 (ix4 b h R l)) = ix3 b h R := by idx_ext
  rw [val_main_v14_apply, val_main_v13_apply, val_main_v12_apply, val_main_v11_apply, val_main_v10_apply, val_main_v9_apply,
    val_main_cst_1_apply, i1, ← ofBits_bot]
  generalize val_main_v7 (F := Ideal) x1 x2 (ix4 b h R l) = s
  generalize val_main_v8 (F := Ideal) x1 x2 (ix3 b h R) = s'
  rfl

theorem v18_apply (b : Fin 8) (h : Fin 4) (R : Fin 2048) (l : Fin 256) :
    val_main_v18 (F := Ideal) x1 x2 (ix4 b h R l)
      = Ideal.div (val_main_v14 (F := Ideal) x1 x2 (ix4 b h R l)) (∑ k, val_main_v14 (F := Ideal) x1 x2 (ix4 b h R k)) := by
  unfold val_main_v18 val_main_v17 val_main_v16 val_main_v15
  generalize val_main_v14 (F := Ideal) x1 x2 = s
  pointwise [val_main_cst_2]

theorem v21_apply (b : Fin 8) (h : Fin 4) (R : Fin 2048) (d : Fin 128) :
    val_main_v21 (F := Ideal) x1 x2 x3 (ix3 b R ⟨h.val * 128 + d.val, by omega⟩)
      = ∑ k : Fin 256, x3 (ix2 ⟨b.val * 256 + k.val, by omega⟩ ⟨h.val * 128 + d.val, by omega⟩) * val_main_v18 (F := Ideal) x1 x2 (ix4 b h R k) := by
  unfold val_main_v21 val_main_v20 val_main_v19
  generalize val_main_v18 (F := Ideal) x1 x2 = s
  pointwise [val_main_v4]

theorem v24_apply (b : Fin 8) (R : Fin 2048) (c : Fin 1024) :
    val_main_v24 (F := Ideal) x0 x1 x2 x3 x5 (ix3 b R c)
      = x0 (ix2 ⟨b.val * 2048 + R.val, by omega⟩ c) + ∑ k : Fin 512, val_main_v21 (F := Ideal) x1 x2 x3 (ix3 b R k) * x5 (ix2 k c) := by
  unfold val_main_v24 val_main_v23
  generalize val_main_v21 (F := Ideal) x1 x2 x3 = s
  pointwise [val_main_v22, val_main_v0]

theorem v37_apply (b : Fin 8) (R : Fin 2048) (c : Fin 1024) :
    val_main_v37 (F := Ideal) x0 x1 x2 x3 x5 x6 (ix3 b R c)
      = val_main_v24 (F := Ideal) x0 x1 x2 x3 x5 (ix3 b R c) *
          Ideal.rsqrt (Ideal.div (∑ k, val_main_v24 (F := Ideal) x0 x1 x2 x3 x5 (ix3 b R k) * val_main_v24 (F := Ideal) x0 x1 x2 x3 x5 (ix3 b R k)) (Ideal.ofBits FTy.f32 0x44800000#32) + Ideal.ofBits FTy.f32 0x358637BD#32) * x6 (ix2 0 c) := by
  unfold val_main_v37 val_main_v36 val_main_v35 val_main_v34 val_main_v33 val_main_v32 val_main_v31 val_main_v30 val_main_v29 val_main_v28 val_main_v27 val_main_v26 val_main_v25
  generalize val_main_v24 (F := Ideal) x0 x1 x2 x3 x5 = s
  pointwise [val_main_cst_3, val_main_cst_4, val_main_cst_5]

theorem v40_apply (b : Fin 8) (R : Fin 2048) (c : Fin 2816) :
    val_main_v40 (F := Ideal) x0 x1 x2 x3 x5 x6 x7 (ix3 b R c)
      = ∑ k : Fin 1024, val_main_v37 (F := Ideal) x0 x1 x2 x3 x5 x6 (ix3 b R k) * x7 (ix2 k ⟨c.val, by omega⟩) := by
  unfold val_main_v40 val_main_v39
  generalize val_main_v37 (F := Ideal) x0 x1 x2 x3 x5 x6 = s
  pointwise [val_main_v38]

theorem v41_apply (b : Fin 8) (R : Fin 2048) (c : Fin 2816) :
    val_main_v41 (F := Ideal) x0 x1 x2 x3 x5 x6 x7 (ix3 b R c)
      = ∑ k : Fin 1024, val_main_v37 (F := Ideal) x0 x1 x2 x3 x5 x6 (ix3 b R k) * x7 (ix2 k ⟨2816 + c.val, by omega⟩) := by
  unfold val_main_v41 val_main_v39
  generalize val_main_v37 (F := Ideal) x0 x1 x2 x3 x5 x6 = s
  pointwise [val_main_v38]

theorem v42_apply (b : Fin 8) (r : Fin 8) (c : Fin 2816) :
    val_main_v42 (F := Ideal) x0 x1 x2 x3 x5 x6 x7 (ix3 b r c)
      = val_main_v40 (F := Ideal) x0 x1 x2 x3 x5 x6 x7 (ix3 b ⟨2040 + r.val, by omega⟩ c) := by
  unfold val_main_v42
  generalize val_main_v40 (F := Ideal) x0 x1 x2 x3 x5 x6 x7 = s
  pointwise

theorem v44_apply (b : Fin 8) (j : Fin 2050) (c : Fin 2816) :
    val_main_v44 (F := Ideal) x0 x1 x2 x3 x4 x5 x6 x7 (ix3 b j c)
      = if h : j.val < 2 then x4 (ix3 b ⟨6 + j.val, by omega⟩ c) else val_main_v40 (F := Ideal) x0 x1 x2 x3 x5 x6 x7 (ix3 b ⟨j.val - 2, by omega⟩ c) := by
  unfold val_main_v44
  generalize val_main_v40 (F := Ideal) x0 x1 x2 x3 x5 x6 x7 = s
  pointwise [val_main_v43]

theorem v66_apply (b : Fin 8) (R : Fin 2048) (c : Fin 2816) :
    val_main_v66 (F := Ideal) x0 x1 x2 x3 x4 x5 x6 x7 x8 (ix3 b R c)
      = val_main_v44 (F := Ideal) x0 x1 x2 x3 x4 x5 x6 x7 (ix3 b ⟨R.val, by omega⟩ c) * x8 (ix2 0 c)
        + val_main_v44 (F := Ideal) x0 x1 x2 x3 x4 x5 x6 x7 (ix3 b ⟨1 + R.val, by omega⟩ c) * x8 (ix2 1 c)
        + val_main_v44 (F := Ideal) x0 x1 x2 x3 x4 x5 x6 x7 (ix3 b ⟨2 + R.val, by omega⟩ c) * x8 (ix2 2 c) := by
  unfold val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45
  generalize val_main_v44 (F := Ideal) x0 x1 x2 x3 x4 x5 x6 x7 = s
  pointwise [val_main_cst_6]

theorem v68_apply (b : Fin 8) (R : Fin 2048) (c : Fin 2816) :
    val_main_v68 (F := Ideal) x0 x1 x2 x3 x4 x5 x6 x7 x8 (ix3 b R c)
      = val_main_v66 (F := Ideal) x0 x1 x2 x3 x4 x5 x6 x7 x8 (ix3 b R c) * Ideal.logistic (val_main_v66 (F := Ideal) x0 x1 x2 x3 x4 x5 x6 x7 x8 (ix3 b R c)) * val_main_v41 (F := Ideal) x0 x1 x2 x3 x5 x6 x7 (ix3 b R c) := by
  unfold val_main_v68 val_main_v67 val_main_call0_v5 val_main_call0_v4 val_main_call0_v3 val_main_call0_v2 val_main_call0_v1 val_main_call0_v0
  generalize val_main_v66 (F := Ideal) x0 x1 x2 x3 x4 x5 x6 x7 x8 = s
  generalize val_main_v41 (F := Ideal) x0 x1 x2 x3 x5 x6 x7 = s'
  pointwise [val_main_call0_cst, val_main_call0_cst_0]
  rfl

theorem v71_apply (b : Fin 8) (R : Fin 2048) (c : Fin 1024) :
    val_main_v71 (F := Ideal) x0 x1 x2 x3 x4 x5 x6 x7 x8 x9 (ix3 b R c)
      = val_main_v24 (F := Ideal) x0 x1 x2 x3 x5 (ix3 b R c) + ∑ k : Fin 2816, val_main_v68 (F := Ideal) x0 x1 x2 x3 x4 x5 x6 x7 x8 (ix3 b R k) * x9 (ix2 k c) := by
  unfold val_main_v71 val_main_v70
  generalize val_main_v68 (F := Ideal) x0 x1 x2 x3 x4 x5 x6 x7 x8 = s
  generalize val_main_v24 (F := Ideal) x0 x1 x2 x3 x5 = s'
  pointwise [val_main_v69]

theorem v85_apply (b : Fin 8) (R : Fin 2048) (c : Fin 1024) :
    val_main_v85 (F := Ideal) x0 x1 x2 x3 x4 x5 x6 x7 x8 x9 x10 (ix2 ⟨b.val * 2048 + R.val, by omega⟩ c)
      = val_main_v71 (F := Ideal) x0 x1 x2 x3 x4 x5 x6 x7 x8 x9 (ix3 b R c) *
          Ideal.rsqrt (Ideal.div (∑ k, val_main_v71 (F := Ideal) x0 x1 x2 x3 x4 x5 x6 x7 x8 x9 (ix3 b R k) * val_main_v71 (F := Ideal) x0 x1 x2 x3 x4 x5 x6 x7 x8 x9 (ix3 b R k)) (Ideal.ofBits FTy.f32 0x44800000#32) + Ideal.ofBits FTy.f32 0x358637BD#32) * x10 (ix2 0 c) := by
  unfold val_main_v85 val_main_v84 val_main_v83 val_main_v82 val_main_v81 val_main_v80 val_main_v79 val_main_v78 val_main_v77 val_main_v76 val_main_v75 val_main_v74 val_main_v73 val_main_v72
  generalize val_main_v71 (F := Ideal) x0 x1 x2 x3 x4 x5 x6 x7 x8 x9 = s
  pointwise [val_main_cst_7, val_main_cst_8, val_main_cst_9]

end Cert.Ffn.Ref
end
-- ==== Proof.Soft.lean ====
module

public import Idealize.ShloMosaic.Lib.IdealHost

@[expose] public section

set_option maxRecDepth 16384

noncomputable section

open Idealize.ShloMosaic Idealize.ShloMosaic.TcCoe Idealize.SL.Sem

namespace Cert.Soft

/-- An extended real that is a real number. -/
def IsReal (x : EReal) : Prop := x ≠ ⊤ ∧ x ≠ ⊥

/-- Such a number is the image of a real number. -/
theorem IsReal.exists_coe {x : EReal} (h : IsReal x) : ∃ r : ℝ, x = (r : EReal) := ⟨x.toReal, (EReal.coe_toReal h.1 h.2).symm⟩

/-- The image of a real number is real. -/
theorem isReal_coe (r : ℝ) : IsReal (r : EReal) := ⟨EReal.coe_ne_top r, EReal.coe_ne_bot r⟩

/-- Zero is real. -/
theorem isReal_zero : IsReal 0 := isReal_coe 0

/-- A product of real numbers is real. -/
theorem IsReal.mul {x y : EReal} (hx : IsReal x) (hy : IsReal y) : IsReal (x * y) := by
  obtain ⟨r, rfl⟩ := hx.exists_coe
  obtain ⟨s, rfl⟩ := hy.exists_coe
  rw [← EReal.coe_mul]; exact isReal_coe _

/-- A sum of two real numbers is real. -/
theorem IsReal.add {x y : EReal} (hx : IsReal x) (hy : IsReal y) : IsReal (x + y) := by
  obtain ⟨r, rfl⟩ := hx.exists_coe
  obtain ⟨s, rfl⟩ := hy.exists_coe
  rw [← EReal.coe_add]; exact isReal_coe _

/-- A finite sum of real numbers is real. -/
theorem isReal_sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih

/-- An exponential is nonnegative. -/
theorem exp_nonneg (x : EReal) : 0 ≤ Ideal.exp x := by
  induction x with
  | bot => exact le_refl _
  | top => exact le_top
  | coe r => rw [Ideal.exp_coe]; exact EReal.coe_nonneg.mpr (Real.exp_pos r).le

/-- A fold of the maximum from minus infinity is the supremum. -/
theorem fold_max_eq_sup {ι : Type} (s : Finset ι) (f : ι → EReal) : Finset.fold max ⊥ f s = s.sup f := rfl

/-- The sum of the exponentials of a row's entries less their maximum is not zero, if the entries are real: the entry
    that attains the maximum contributes one, and no term is negative. -/
theorem sum_exp_ne_zero {n : ℕ} (hn : 0 < n) (s : Fin n → EReal) (hs : ∀ j, IsReal (s j)) :
    ∑ j, Ideal.exp (s j - Finset.fold max ⊥ s Finset.univ) ≠ 0 := by
  haveI : Nonempty (Fin n) := ⟨⟨0, hn⟩⟩
  obtain ⟨i, -, hi⟩ := Finset.exists_mem_eq_sup Finset.univ Finset.univ_nonempty s
  rw [fold_max_eq_sup, hi]
  have h0 : s i - s i = 0 := EReal.sub_self (hs i).1 (hs i).2
  have h1 : (1 : EReal) ≤ ∑ j, Ideal.exp (s j - s i) := by
    refine le_trans ?_ (Finset.single_le_sum (f := fun j => Ideal.exp (s j - s i)) (fun j _ => exp_nonneg _) (Finset.mem_univ i))
    show (1 : EReal) ≤ Ideal.exp (s i - s i)
    rw [h0, show (0 : EReal) = ((0 : ℝ) : EReal) from rfl, Ideal.exp_coe, Real.exp_zero]
    exact le_refl _
  intro e; rw [e] at h1; exact absurd h1 (by simp)

/-- One weight of a softmax: the exponential times the reciprocal of the sum is the exponential over the sum. -/
theorem weight_eq {n : ℕ} (hn : 0 < n) (s : Fin n → EReal) (hs : ∀ j, IsReal (s j)) (k : Fin n) :
    Ideal.exp (s k - Finset.fold max ⊥ s Finset.univ) * Ideal.div 1 (∑ j, Ideal.exp (s j - Finset.fold max ⊥ s Finset.univ))
      = Ideal.div (Ideal.exp (s k - max ⊥ (Finset.fold max ⊥ s Finset.univ))) (∑ j, Ideal.exp (s j - max ⊥ (Finset.fold max ⊥ s Finset.univ))) := by
  rw [max_eq_right (bot_le : ⊥ ≤ Finset.fold max ⊥ s Finset.univ), Ideal.mul_one_div (sum_exp_ne_zero hn s hs)]

end Cert.Soft
end
-- ==== Proof.FfnKer.lean ====
module

public import proofs.«01_k».proof.Proof.FfnRef
public import proofs.«01_k».proof.Proof.Soft
public import proofs.«01_k».proof.Proof.Gen.Kernel3Ideal.Skeleton
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

namespace Cert.Ffn.Ker
open Cert.Kernel3Ideal Cert.Kernel3Ideal.Gen Cert.Soft
open Cert.Reference3Ideal.Read (val_main_v7 val_main_v14 val_main_v18 val_main_v21 val_main_v24 val_main_v37 val_main_v40 val_main_v41 val_main_v42 val_main_v44 val_main_v66 val_main_v68 val_main_v71 val_main_v85)

variable {x0 : (⟨Cert.Reference3Ideal.S16384x1024, .f32⟩ : BufTy).Contents (Elt Ideal)} {x1 : (⟨Cert.Reference3Ideal.S16384x512, .bf16⟩ : BufTy).Contents (Elt Ideal)} {x2 : (⟨Cert.Reference3Ideal.S2048x512, .f32⟩ : BufTy).Contents (Elt Ideal)} {x3 : (⟨Cert.Reference3Ideal.S2048x512, .f32⟩ : BufTy).Contents (Elt Ideal)} {x4 : (⟨Cert.Reference3Ideal.S8x8x2816, .f32⟩ : BufTy).Contents (Elt Ideal)} {x5 : (⟨Cert.Reference3Ideal.S512x1024, .bf16⟩ : BufTy).Contents (Elt Ideal)} {x6 : (⟨Cert.Reference3Ideal.S1x1024, .f32⟩ : BufTy).Contents (Elt Ideal)} {x7 : (⟨Cert.Reference3Ideal.S1024x5632, .bf16⟩ : BufTy).Contents (Elt Ideal)} {x8 : (⟨Cert.Reference3Ideal.S3x2816, .f32⟩ : BufTy).Contents (Elt Ideal)} {x9 : (⟨Cert.Reference3Ideal.S2816x1024, .bf16⟩ : BufTy).Contents (Elt Ideal)} {x10 : (⟨Cert.Reference3Ideal.S1x1024, .f32⟩ : BufTy).Contents (Elt Ideal)}
variable (b : Fin 8) (T : Fin 4)

/-- The row of its sequence that row `r` of tile `T` is. -/
abbrev row (T : Fin 4) (r : Fin 512) : Fin 2048 := ⟨T.val * 512 + r.val, by omega⟩

/-- The scale of the scores is a real number. -/
theorem isReal_scale : IsReal (Ideal.ofBits FTy.f32 0x3DB504F3#32) := by
  simp [Ideal.ofBits, Ideal.ieee, -EReal.coe_mul]
  exact isReal_coe _

/-- The reference's scores are real when the queries and the keys are. -/
theorem isReal_scores (h1 : ∀ i, IsReal (x1 i)) (h2 : ∀ i, IsReal (x2 i)) (h : Fin 4) (R : Fin 2048) (l : Fin 256) :
    IsReal (val_main_v7 (F := Ideal) x1 x2 (ix4 b h R l)) := by
  rw [Ref.v7_apply]
  exact (isReal_sum _ _ fun d => (h1 _).mul (h2 _)).mul isReal_scale

/-- A head's scores in a tile are the reference's. -/
theorem scores_eq (h : Fin 4) (Q : Vec Ideal S512x128 .bf16) (K : Vec Ideal S256x128 .f32)
    (hQ : ∀ r d, Q (ix2 r d) = x1 (ix2 ⟨b.val * 2048 + (row T r).val, by omega⟩ ⟨h.val * 128 + d.val, by omega⟩))
    (hK : ∀ k d, K (ix2 k d) = x2 (ix2 ⟨b.val * 256 + k.val, by omega⟩ ⟨h.val * 128 + d.val, by omega⟩)) (r : Fin 512) (l : Fin 256) :
    k0_pay3 (F := Ideal) Q K (ix2 r l) = val_main_v7 (F := Ideal) x1 x2 (ix4 b h (row T r) l) := by
  rw [Ref.v7_apply]
  pointwise [k0_pay3]
  simp only [hQ, hK]

/-- The weights from a head's scores, at an index. -/
theorem pay8_apply (s : FVec Ideal S512x256 .f32) (r : Fin 512) (l : Fin 256) :
    k0_pay8 (F := Ideal) s (ix2 r l)
      = Ideal.exp (s (ix2 r l) - Finset.fold max ⊥ (fun k => s (ix2 r k)) Finset.univ) *
          Ideal.div 1 (∑ k, Ideal.exp (s (ix2 r k) - Finset.fold max ⊥ (fun k => s (ix2 r k)) Finset.univ)) := by
  rw [← Ref.ofBits_bot]
  pointwise [k0_pay8]

/-- The three written copies of the weights' computation are one. -/
theorem pay9_eq (s : FVec Ideal S512x256 .f32) : k0_pay9 (F := Ideal) s = k0_pay8 s := rfl
theorem pay10_eq (s : FVec Ideal S512x256 .f32) : k0_pay10 (F := Ideal) s = k0_pay8 s := rfl
theorem pay4_eq (Q : Vec Ideal S512x128 .bf16) (K : Vec Ideal S256x128 .f32) : k0_pay4 (F := Ideal) Q K = k0_pay3 Q K := rfl
theorem pay5_eq (Q : Vec Ideal S512x128 .bf16) (K : Vec Ideal S256x128 .f32) : k0_pay5 (F := Ideal) Q K = k0_pay3 Q K := rfl

/-- A head's weights in a tile are the reference's. -/
theorem weights_eq (h1 : ∀ i, IsReal (x1 i)) (h2 : ∀ i, IsReal (x2 i)) (h : Fin 4) (s : FVec Ideal S512x256 .f32)
    (hs : ∀ r l, s (ix2 r l) = val_main_v7 (F := Ideal) x1 x2 (ix4 b h (row T r) l)) (r : Fin 512) (l : Fin 256) :
    k0_pay8 (F := Ideal) s (ix2 r l) = val_main_v18 (F := Ideal) x1 x2 (ix4 b h (row T r) l) := by
  rw [pay8_apply, Ref.v18_apply]
  simp only [hs, Ref.v14_apply]
  exact weight_eq (by decide) (fun k => val_main_v7 (F := Ideal) x1 x2 (ix4 b h (row T r) k)) (fun k => isReal_scores b h1 h2 h _ k) l

/-- Head 0's output, whose weights the kernel divides after the exponentials are handed on, is the sum the other heads take. -/
theorem pay11_apply (Q : Vec Ideal S512x128 .bf16) (K : Vec Ideal S256x128 .f32) (V : Vec Ideal S256x128 .f32) (r : Fin 512) (d : Fin 128) :
    k0_pay11 (F := Ideal) (k0_pay6 Q K) (k0_pay7 Q K) (FloatOps.ofBits FTy.f32 0x3F800000#32) V (ix2 r d)
      = ∑ k, k0_pay8 (F := Ideal) (k0_pay3 Q K) (ix2 r k) * V (ix2 k d) := by
  pointwise [k0_pay11, k0_pay6, k0_pay7, k0_pay8, k0_pay3]

/-- The residual stream after the cross attention. -/
theorem h1_eq (P1 P2 P3 : FVec Ideal S512x256 .bf16) (O0 : FVec Ideal S512x128 .bf16) (V1 V2 V3 : Vec Ideal S256x128 .f32) (X0 : Vec Ideal S512x1024 .f32) (W : Vec Ideal S512x1024 .bf16)
    (hO : ∀ r d, O0 (ix2 r d) = val_main_v21 (F := Ideal) x1 x2 x3 (ix3 b (row T r) ⟨0 * 128 + d.val, by omega⟩))
    (hO1 : ∀ (r : Fin 512) (d : Fin 128), ∑ k, P1 (ix2 r k) * V1 (ix2 k d) = val_main_v21 (F := Ideal) x1 x2 x3 (ix3 b (row T r) ⟨1 * 128 + d.val, by omega⟩))
    (hO2 : ∀ (r : Fin 512) (d : Fin 128), ∑ k, P2 (ix2 r k) * V2 (ix2 k d) = val_main_v21 (F := Ideal) x1 x2 x3 (ix3 b (row T r) ⟨2 * 128 + d.val, by omega⟩))
    (hO3 : ∀ (r : Fin 512) (d : Fin 128), ∑ k, P3 (ix2 r k) * V3 (ix2 k d) = val_main_v21 (F := Ideal) x1 x2 x3 (ix3 b (row T r) ⟨3 * 128 + d.val, by omega⟩))
    (hX : ∀ r c, X0 (ix2 r c) = x0 (ix2 ⟨b.val * 2048 + (row T r).val, by omega⟩ c))
    (r : Fin 512) (c : Fin 1024) :
    k0_pay12 (F := Ideal) P1 P2 P3 O0 V1 V2 V3 X0 W (ix2 r c) = val_main_v24 (F := Ideal) x0 x1 x2 x3 W (ix3 b (row T r) c) := by
  rw [Ref.v24_apply]
  pointwise [k0_pay12]
  rw [hX]
  refine congrArg _ (Finset.sum_congr rfl fun k _ => congrArg (· * _) ?_)
  split
  · rw [hO]; exact congrArg _ (by idx_ext)
  split
  · rw [hO1]; exact congrArg _ (by idx_ext)
  split
  · rw [hO2]; exact congrArg _ (by idx_ext)
  · rw [hO3]; exact congrArg _ (by idx_ext)

/-- The normalised stream the feed-forward net reads. -/
theorem hn_eq (P1 P2 P3 : FVec Ideal S512x256 .bf16) (O0 : FVec Ideal S512x128 .bf16) (V1 V2 V3 : Vec Ideal S256x128 .f32) (X0 : Vec Ideal S512x1024 .f32) (W : Vec Ideal S512x1024 .bf16) (g : Vec Ideal S1x1024 .f32)
    (h1 : ∀ r c, k0_pay12 (F := Ideal) P1 P2 P3 O0 V1 V2 V3 X0 W (ix2 r c) = val_main_v24 (F := Ideal) x0 x1 x2 x3 W (ix3 b (row T r) c))
    (r : Fin 512) (c : Fin 1024) :
    k0_pay14 (F := Ideal) P1 P2 P3 O0 V1 V2 V3 X0 W g (ix2 r c) = val_main_v37 (F := Ideal) x0 x1 x2 x3 W g (ix3 b (row T r) c) := by
  rw [Ref.v37_apply]
  simp only [← h1]
  unfold k0_pay14
  generalize k0_pay12 (F := Ideal) P1 P2 P3 O0 V1 V2 V3 X0 W = s
  pointwise

/-- The up projection's convolved half. -/
theorem u_eq (hn : FVec Ideal S512x1024 .bf16) (WU : Vec Ideal S1024x2816 .bf16)
    (hhn : ∀ r c, hn (ix2 r c) = val_main_v37 (F := Ideal) x0 x1 x2 x3 x5 x6 (ix3 b (row T r) c))
    (hW : ∀ k c, WU (ix2 k c) = x7 (ix2 k ⟨c.val, by omega⟩)) (r : Fin 512) (c : Fin 2816) :
    k0_pay15 (F := Ideal) hn WU (ix2 r c) = val_main_v40 (F := Ideal) x0 x1 x2 x3 x5 x6 x7 (ix3 b (row T r) c) := by
  rw [Ref.v40_apply]
  pointwise [k0_pay15]
  simp only [hhn, hW]

/-- The up projection's gating half. -/
theorem gate_eq (hn : FVec Ideal S512x1024 .bf16) (WG : Vec Ideal S1024x2816 .bf16)
    (hhn : ∀ r c, hn (ix2 r c) = val_main_v37 (F := Ideal) x0 x1 x2 x3 x5 x6 (ix3 b (row T r) c))
    (hW : ∀ k c, WG (ix2 k c) = x7 (ix2 k ⟨2816 + c.val, by omega⟩)) (r : Fin 512) (c : Fin 2816) :
    k0_pay16 (F := Ideal) hn WG (ix2 r c) = val_main_v41 (F := Ideal) x0 x1 x2 x3 x5 x6 x7 (ix3 b (row T r) c) := by
  rw [Ref.v41_apply]
  pointwise [k0_pay16]
  simp only [hhn, hW]

/-- The convolution: three rows of the history and the tile, weighted; the kernel adds the newest row first. -/
theorem conv_eq (hn : FVec Ideal S512x1024 .bf16) (WU : Vec Ideal S1024x2816 .bf16) (cw : Vec Ideal S3x2816 .f32) (A B : Vec Ideal S512x2816 .f32)
    (hu : ∀ r c, k0_pay15 (F := Ideal) hn WU (ix2 r c) = val_main_v40 (F := Ideal) x0 x1 x2 x3 x5 x6 x7 (ix3 b (row T r) c))
    (hA : ∀ r c, A (ix2 r c) = val_main_v44 (F := Ideal) x0 x1 x2 x3 x4 x5 x6 x7 (ix3 b ⟨(row T r).val, by omega⟩ c))
    (hB : ∀ r c, B (ix2 r c) = val_main_v44 (F := Ideal) x0 x1 x2 x3 x4 x5 x6 x7 (ix3 b ⟨1 + (row T r).val, by omega⟩ c))
    (r : Fin 512) (c : Fin 2816) :
    k0_pay19 (F := Ideal) hn WU cw A B (ix2 r c) = val_main_v66 (F := Ideal) x0 x1 x2 x3 x4 x5 x6 x7 cw (ix3 b (row T r) c) := by
  have e : val_main_v44 (F := Ideal) x0 x1 x2 x3 x4 x5 x6 x7 (ix3 b ⟨2 + (row T r).val, by omega⟩ c)
      = val_main_v40 (F := Ideal) x0 x1 x2 x3 x5 x6 x7 (ix3 b (row T r) c) := by
    rw [Ref.v44_apply, dif_neg (show ¬ (2 + (row T r).val < 2) by omega)]
    exact congrArg _ (by idx_ext)
  rw [Ref.v66_apply, e, ← hu, ← hA, ← hB]
  unfold k0_pay19
  generalize k0_pay15 (F := Ideal) hn WU = s
  pointwise
  rw [add_assoc, add_comm]

/-- The stream after the feed-forward net. -/
theorem h2_eq (G C L : FVec Ideal S512x2816 .f32) (H : Vec Ideal S512x1024 .f32) (WD : Vec Ideal S2816x1024 .bf16)
    (hG : ∀ r c, G (ix2 r c) = val_main_v41 (F := Ideal) x0 x1 x2 x3 x5 x6 x7 (ix3 b (row T r) c))
    (hC : ∀ r c, C (ix2 r c) = val_main_v66 (F := Ideal) x0 x1 x2 x3 x4 x5 x6 x7 x8 (ix3 b (row T r) c))
    (hL : ∀ r c, L (ix2 r c) = Ideal.logistic (C (ix2 r c)))
    (hH : ∀ r c, H (ix2 r c) = val_main_v24 (F := Ideal) x0 x1 x2 x3 x5 (ix3 b (row T r) c))
    (r : Fin 512) (c : Fin 1024) :
    k0_pay1 (F := Ideal) G C H L WD (ix2 r c) = val_main_v71 (F := Ideal) x0 x1 x2 x3 x4 x5 x6 x7 x8 WD (ix3 b (row T r) c) := by
  rw [Ref.v71_apply]
  simp only [Ref.v68_apply]
  pointwise [k0_pay1]
  simp only [hG, hL, hC, hH]

/-- The layer's result rows. -/
theorem out_eq (H : Vec Ideal S512x1024 .f32) (fg : Vec Ideal S1x1024 .f32)
    (hH : ∀ r c, H (ix2 r c) = val_main_v71 (F := Ideal) x0 x1 x2 x3 x4 x5 x6 x7 x8 x9 (ix3 b (row T r) c))
    (r : Fin 512) (c : Fin 1024) :
    k0_pay2 (F := Ideal) H fg (ix2 r c) = val_main_v85 (F := Ideal) x0 x1 x2 x3 x4 x5 x6 x7 x8 x9 fg (ix2 ⟨b.val * 2048 + (row T r).val, by omega⟩ c) := by
  rw [Ref.v85_apply]
  simp only [← hH]
  pointwise [k0_pay2]

end Cert.Ffn.Ker
end
-- ==== Proof.FfnBlk.lean ====
module

public import proofs.«01_k».proof.Proof.FfnKer
public import proofs.«01_k».proof.Proof.Gen.Kernel3Ideal.Frame
public import proofs.«01_k».proof.Proof.Gen.Kernel3Ideal.Value
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Ffn.Val
open Cert.Kernel3Ideal Cert.Kernel3Ideal.Gen Cert.Soft Cert.Ffn.Ker
open Cert.Reference3Ideal.Read (val_main_v7 val_main_v14 val_main_v18 val_main_v21 val_main_v24 val_main_v37 val_main_v40 val_main_v41 val_main_v42 val_main_v44 val_main_v66 val_main_v68 val_main_v71 val_main_v85)

variable (m : (ℓ : Loc nD τ sig) → Buf (Elt Ideal) ℓ)

/-- Where each window's block sits at a point, in closed form: the sequence is the point's number over four, the tile its remainder. -/
theorem idx : ∀ t : Fin grid0.N,
    win0_0.index t = ![t.val, 0] ∧ win0_1.index t = ![t.val, 0] ∧ win0_2.index t = ![t.val / 4, 0] ∧ win0_3.index t = ![t.val / 4, 0]
    ∧ win0_4.index t = ![t.val / 4, 0, 0] ∧ win0_5.index t = ![0, 0] ∧ win0_6.index t = ![0, 0] ∧ win0_7.index t = ![0, 0] ∧ win0_8.index t = ![0, 1]
    ∧ win0_9.index t = ![0, 0] ∧ win0_10.index t = ![0, 0] ∧ win0_11.index t = ![0, 0] ∧ win0_12.index t = ![t.val, 0] ∧ win0_13.index t = ![t.val / 4, 0, 0] := by
  decide +kernel

variable (c : Dev nD) (t : Fin cfg0.N) (b : Fin 8) (T : Fin 4) (ht : t.val = b.val * 4 + T.val)
include ht

/-- Window 0's block holds the stream's rows of the point's tile. -/
theorem blk0 (r : Fin 512) (k : Fin 1024) :
    iblk m c 0 t (ix2 r k) = m ((c.tc : Thread nD τ).loc main_arg0) (ix2 ⟨b.val * 2048 + (row T r).val, by omega⟩ k) := by
  blk_ext [iblk, V, idx t]

/-- Window 1's block holds the queries' rows of the point's tile. -/
theorem blk1 (r : Fin 512) (k : Fin 512) :
    iblk m c 1 t (ix2 r k) = m ((c.tc : Thread nD τ).loc main_arg1) (ix2 ⟨b.val * 2048 + (row T r).val, by omega⟩ k) := by
  blk_ext [iblk, V, idx t]

/-- Window 2's block holds the sequence's memory keys. -/
theorem blk2 (r : Fin 256) (k : Fin 512) :
    iblk m c 2 t (ix2 r k) = m ((c.tc : Thread nD τ).loc main_arg2) (ix2 ⟨b.val * 256 + r.val, by omega⟩ k) := by
  blk_ext [iblk, V, idx t]

/-- Window 3's block holds the sequence's memory values. -/
theorem blk3 (r : Fin 256) (k : Fin 512) :
    iblk m c 3 t (ix2 r k) = m ((c.tc : Thread nD τ).loc main_arg3) (ix2 ⟨b.val * 256 + r.val, by omega⟩ k) := by
  blk_ext [iblk, V, idx t]

/-- Window 4's block holds the sequence's convolution history. -/
theorem blk4 (r : Fin 8) (k : Fin 2816) :
    iblk m c 4 t (ix3 0 r k) = m ((c.tc : Thread nD τ).loc main_arg4) (ix3 b r k) := by
  blk_ext [iblk, V, idx t]

omit ht in
/-- Window 5's block is the output projection of the cross attention. -/
theorem blk5 : iblk m c 5 t = m ((c.tc : Thread nD τ).loc main_arg5) := by
  funext j
  blk_ext [iblk, V, idx t]

omit ht in
/-- Window 6's block is the first norm's weight. -/
theorem blk6 : iblk m c 6 t = m ((c.tc : Thread nD τ).loc main_arg6) := by
  funext j
  blk_ext [iblk, V, idx t]

omit ht in
/-- Window 7's block is the up projection's first half. -/
theorem blk7 (r : Fin 1024) (k : Fin 2816) :
    iblk m c 7 t (ix2 r k) = m ((c.tc : Thread nD τ).loc main_arg7) (ix2 r ⟨k.val, by omega⟩) := by
  blk_ext [iblk, V, idx t]

omit ht in
/-- Window 8's block is the up projection's second half. -/
theorem blk8 (r : Fin 1024) (k : Fin 2816) :
    iblk m c 8 t (ix2 r k) = m ((c.tc : Thread nD τ).loc main_arg7) (ix2 r ⟨2816 + k.val, by omega⟩) := by
  blk_ext [iblk, V, idx t]

omit ht in
/-- Window 9's block is the convolution's weights. -/
theorem blk9 : iblk m c 9 t = m ((c.tc : Thread nD τ).loc main_arg8) := by
  funext j
  blk_ext [iblk, V, idx t]

omit ht in
/-- Window 10's block is the down projection. -/
theorem blk10 : iblk m c 10 t = m ((c.tc : Thread nD τ).loc main_arg9) := by
  funext j
  blk_ext [iblk, V, idx t]

omit ht in
/-- Window 11's block is the last norm's weight. -/
theorem blk11 : iblk m c 11 t = m ((c.tc : Thread nD τ).loc main_arg10) := by
  funext j
  blk_ext [iblk, V, idx t]

end Cert.Ffn.Val
end
-- ==== Proof.FfnPoint.lean ====
module

public import proofs.«01_k».proof.Proof.FfnBlk
public import proofs.«01_k».proof.Proof.Gen.Kernel3Ideal.Frame
public import proofs.«01_k».proof.Proof.Gen.Kernel3Ideal.Value
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Ffn.Val
open Cert.Kernel3Ideal Cert.Kernel3Ideal.Gen Cert.Soft Cert.Ffn.Ker
open Cert.Reference3Ideal.Read (val_main_v7 val_main_v14 val_main_v18 val_main_v21 val_main_v24 val_main_v37 val_main_v40 val_main_v41 val_main_v42 val_main_v44 val_main_v66 val_main_v68 val_main_v71 val_main_v85)

variable (m : (ℓ : Loc nD τ sig) → Buf (Elt Ideal) ℓ)

variable (c : Dev nD) (t : Fin cfg0.N) (b : Fin 8) (T : Fin 4) (ht : t.val = b.val * 4 + T.val)
include ht

/-- One head of the cross attention in a tile: the weights times the values are the reference's output for that head. -/
theorem head_eq (h1 : ∀ i, IsReal (m ((c.tc : Thread nD τ).loc main_arg1) i : EReal)) (h2 : ∀ i, IsReal (m ((c.tc : Thread nD τ).loc main_arg2) i : EReal)) (h : Fin 4)
    (Q : Vec Ideal S512x128 .bf16) (K V : Vec Ideal S256x128 .f32)
    (hQ : ∀ r d, Q (ix2 r d) = m ((c.tc : Thread nD τ).loc main_arg1) (ix2 ⟨b.val * 2048 + (row T r).val, by omega⟩ ⟨h.val * 128 + d.val, by omega⟩))
    (hK : ∀ k d, K (ix2 k d) = m ((c.tc : Thread nD τ).loc main_arg2) (ix2 ⟨b.val * 256 + k.val, by omega⟩ ⟨h.val * 128 + d.val, by omega⟩))
    (hV : ∀ k d, V (ix2 k d) = m ((c.tc : Thread nD τ).loc main_arg3) (ix2 ⟨b.val * 256 + k.val, by omega⟩ ⟨h.val * 128 + d.val, by omega⟩))
    (r : Fin 512) (d : Fin 128) :
    ∑ k, k0_pay8 (F := Ideal) (k0_pay3 Q K) (ix2 r k) * V (ix2 k d)
      = val_main_v21 (F := Ideal) (m ((c.tc : Thread nD τ).loc main_arg1)) (m ((c.tc : Thread nD τ).loc main_arg2)) (m ((c.tc : Thread nD τ).loc main_arg3)) (ix3 b (row T r) ⟨h.val * 128 + d.val, by omega⟩) := by
  rw [Ref.v21_apply]
  refine Finset.sum_congr rfl fun k _ => ?_
  rw [weights_eq b T h1 h2 h _ (scores_eq b T h Q K hQ hK), hV]
  exact mul_comm _ _

/-- The residual stream after the cross attention, as the run computes it in a tile, is the reference's. -/
theorem h1_at (h1 : ∀ i, IsReal (m ((c.tc : Thread nD τ).loc main_arg1) i : EReal)) (h2 : ∀ i, IsReal (m ((c.tc : Thread nD τ).loc main_arg2) i : EReal)) (r : Fin 512) (k : Fin 1024) :
    k0_pay12 (F := Ideal) (k0_pay8 (F := Ideal) (k0_pay3 (View.ld (Val := Elt Ideal) (e' := .bf16) (iblk m c 1 t) (Rect.unit (s := S512x512) ![0, 128] S512x128.size inb_S512x512_S512x128_0_128)) (View.ld (Val := Elt Ideal) (e' := .f32) (iblk m c 2 t) (Rect.unit (s := S256x512) ![0, 128] S256x128.size inb_S256x512_S256x128_0_128))))
      (k0_pay9 (F := Ideal) (k0_pay4 (View.ld (Val := Elt Ideal) (e' := .bf16) (iblk m c 1 t) (Rect.unit (s := S512x512) ![0, 256] S512x128.size inb_S512x512_S512x128_0_256)) (View.ld (Val := Elt Ideal) (e' := .f32) (iblk m c 2 t) (Rect.unit (s := S256x512) ![0, 256] S256x128.size inb_S256x512_S256x128_0_256))))
      (k0_pay10 (F := Ideal) (k0_pay5 (View.ld (Val := Elt Ideal) (e' := .bf16) (iblk m c 1 t) (Rect.unit (s := S512x512) ![0, 384] S512x128.size inb_S512x512_S512x128_0_384)) (View.ld (Val := Elt Ideal) (e' := .f32) (iblk m c 2 t) (Rect.unit (s := S256x512) ![0, 384] S256x128.size inb_S256x512_S256x128_0_384))))
      (k0_pay11 (F := Ideal) (k0_pay6 (View.ld (Val := Elt Ideal) (e' := .bf16) (iblk m c 1 t) (Rect.unit (s := S512x512) ![0, 0] S512x128.size inb_S512x512_S512x128_0_0)) (View.ld (Val := Elt Ideal) (e' := .f32) (iblk m c 2 t) (Rect.unit (s := S256x512) ![0, 0] S256x128.size inb_S256x512_S256x128_0_0))) (k0_pay7 (View.ld (Val := Elt Ideal) (e' := .bf16) (iblk m c 1 t) (Rect.unit (s := S512x512) ![0, 0] S512x128.size inb_S512x512_S512x128_0_0)) (View.ld (Val := Elt Ideal) (e' := .f32) (iblk m c 2 t) (Rect.unit (s := S256x512) ![0, 0] S256x128.size inb_S256x512_S256x128_0_0))) (FloatOps.ofBits FTy.f32 0x3F800000#32) (View.ld (Val := Elt Ideal) (e' := .f32) (iblk m c 3 t) (Rect.unit (s := S256x512) ![0, 0] S256x128.size inb_S256x512_S256x128_0_0)))
      (View.ld (Val := Elt Ideal) (e' := .f32) (iblk m c 3 t) (Rect.unit (s := S256x512) ![0, 128] S256x128.size inb_S256x512_S256x128_0_128)) (View.ld (Val := Elt Ideal) (e' := .f32) (iblk m c 3 t) (Rect.unit (s := S256x512) ![0, 256] S256x128.size inb_S256x512_S256x128_0_256)) (View.ld (Val := Elt Ideal) (e' := .f32) (iblk m c 3 t) (Rect.unit (s := S256x512) ![0, 384] S256x128.size inb_S256x512_S256x128_0_384)) (iblk m c 0 t) (iblk m c 5 t) (ix2 r k)
      = val_main_v24 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (ix3 b (row T r) k) := by
  have hQ0 : ∀ (r : Fin 512) (d : Fin 128), (View.ld (Val := Elt Ideal) (e' := .bf16) (iblk m c 1 t) (Rect.unit (s := S512x512) ![0, 0] S512x128.size inb_S512x512_S512x128_0_0)) (ix2 r d) = m ((c.tc : Thread nD τ).loc main_arg1) (ix2 ⟨b.val * 2048 + (row T r).val, by omega⟩ ⟨0 * 128 + d.val, by omega⟩) := fun r d => by
    refine Eq.trans ?_ (blk1 m c t b T ht r ⟨0 * 128 + d.val, by omega⟩)
    pointwise
  have hK0 : ∀ (r : Fin 256) (d : Fin 128), (View.ld (Val := Elt Ideal) (e' := .f32) (iblk m c 2 t) (Rect.unit (s := S256x512) ![0, 0] S256x128.size inb_S256x512_S256x128_0_0)) (ix2 r d) = m ((c.tc : Thread nD τ).loc main_arg2) (ix2 ⟨b.val * 256 + r.val, by omega⟩ ⟨0 * 128 + d.val, by omega⟩) := fun r d => by
    refine Eq.trans ?_ (blk2 m c t b T ht r ⟨0 * 128 + d.val, by omega⟩)
    pointwise
  have hV0 : ∀ (r : Fin 256) (d : Fin 128), (View.ld (Val := Elt Ideal) (e' := .f32) (iblk m c 3 t) (Rect.unit (s := S256x512) ![0, 0] S256x128.size inb_S256x512_S256x128_0_0)) (ix2 r d) = m ((c.tc : Thread nD τ).loc main_arg3) (ix2 ⟨b.val * 256 + r.val, by omega⟩ ⟨0 * 128 + d.val, by omega⟩) := fun r d => by
    refine Eq.trans ?_ (blk3 m c t b T ht r ⟨0 * 128 + d.val, by omega⟩)
    pointwise
  have hQ1 : ∀ (r : Fin 512) (d : Fin 128), (View.ld (Val := Elt Ideal) (e' := .bf16) (iblk m c 1 t) (Rect.unit (s := S512x512) ![0, 128] S512x128.size inb_S512x512_S512x128_0_128)) (ix2 r d) = m ((c.tc : Thread nD τ).loc main_arg1) (ix2 ⟨b.val * 2048 + (row T r).val, by omega⟩ ⟨1 * 128 + d.val, by omega⟩) := fun r d => by
    refine Eq.trans ?_ (blk1 m c t b T ht r ⟨1 * 128 + d.val, by omega⟩)
    pointwise
  have hK1 : ∀ (r : Fin 256) (d : Fin 128), (View.ld (Val := Elt Ideal) (e' := .f32) (iblk m c 2 t) (Rect.unit (s := S256x512) ![0, 128] S256x128.size inb_S256x512_S256x128_0_128)) (ix2 r d) = m ((c.tc : Thread nD τ).loc main_arg2) (ix2 ⟨b.val * 256 + r.val, by omega⟩ ⟨1 * 128 + d.val, by omega⟩) := fun r d => by
    refine Eq.trans ?_ (blk2 m c t b T ht r ⟨1 * 128 + d.val, by omega⟩)
    pointwise
  have hV1 : ∀ (r : Fin 256) (d : Fin 128), (View.ld (Val := Elt Ideal) (e' := .f32) (iblk m c 3 t) (Rect.unit (s := S256x512) ![0, 128] S256x128.size inb_S256x512_S256x128_0_128)) (ix2 r d) = m ((c.tc : Thread nD τ).loc main_arg3) (ix2 ⟨b.val * 256 + r.val, by omega⟩ ⟨1 * 128 + d.val, by omega⟩) := fun r d => by
    refine Eq.trans ?_ (blk3 m c t b T ht r ⟨1 * 128 + d.val, by omega⟩)
    pointwise
  have hQ2 : ∀ (r : Fin 512) (d : Fin 128), (View.ld (Val := Elt Ideal) (e' := .bf16) (iblk m c 1 t) (Rect.unit (s := S512x512) ![0, 256] S512x128.size inb_S512x512_S512x128_0_256)) (ix2 r d) = m ((c.tc : Thread nD τ).loc main_arg1) (ix2 ⟨b.val * 2048 + (row T r).val, by omega⟩ ⟨2 * 128 + d.val, by omega⟩) := fun r d => by
    refine Eq.trans ?_ (blk1 m c t b T ht r ⟨2 * 128 + d.val, by omega⟩)
    pointwise
  have hK2 : ∀ (r : Fin 256) (d : Fin 128), (View.ld (Val := Elt Ideal) (e' := .f32) (iblk m c 2 t) (Rect.unit (s := S256x512) ![0, 256] S256x128.size inb_S256x512_S256x128_0_256)) (ix2 r d) = m ((c.tc : Thread nD τ).loc main_arg2) (ix2 ⟨b.val * 256 + r.val, by omega⟩ ⟨2 * 128 + d.val, by omega⟩) := fun r d => by
    refine Eq.trans ?_ (blk2 m c t b T ht r ⟨2 * 128 + d.val, by omega⟩)
    pointwise
  have hV2 : ∀ (r : Fin 256) (d : Fin 128), (View.ld (Val := Elt Ideal) (e' := .f32) (iblk m c 3 t) (Rect.unit (s := S256x512) ![0, 256] S256x128.size inb_S256x512_S256x128_0_256)) (ix2 r d) = m ((c.tc : Thread nD τ).loc main_arg3) (ix2 ⟨b.val * 256 + r.val, by omega⟩ ⟨2 * 128 + d.val, by omega⟩) := fun r d => by
    refine Eq.trans ?_ (blk3 m c t b T ht r ⟨2 * 128 + d.val, by omega⟩)
    pointwise
  have hQ3 : ∀ (r : Fin 512) (d : Fin 128), (View.ld (Val := Elt Ideal) (e' := .bf16) (iblk m c 1 t) (Rect.unit (s := S512x512) ![0, 384] S512x128.size inb_S512x512_S512x128_0_384)) (ix2 r d) = m ((c.tc : Thread nD τ).loc main_arg1) (ix2 ⟨b.val * 2048 + (row T r).val, by omega⟩ ⟨3 * 128 + d.val, by omega⟩) := fun r d => by
    refine Eq.trans ?_ (blk1 m c t b T ht r ⟨3 * 128 + d.val, by omega⟩)
    pointwise
  have hK3 : ∀ (r : Fin 256) (d : Fin 128), (View.ld (Val := Elt Ideal) (e' := .f32) (iblk m c 2 t) (Rect.unit (s := S256x512) ![0, 384] S256x128.size inb_S256x512_S256x128_0_384)) (ix2 r d) = m ((c.tc : Thread nD τ).loc main_arg2) (ix2 ⟨b.val * 256 + r.val, by omega⟩ ⟨3 * 128 + d.val, by omega⟩) := fun r d => by
    refine Eq.trans ?_ (blk2 m c t b T ht r ⟨3 * 128 + d.val, by omega⟩)
    pointwise
  have hV3 : ∀ (r : Fin 256) (d : Fin 128), (View.ld (Val := Elt Ideal) (e' := .f32) (iblk m c 3 t) (Rect.unit (s := S256x512) ![0, 384] S256x128.size inb_S256x512_S256x128_0_384)) (ix2 r d) = m ((c.tc : Thread nD τ).loc main_arg3) (ix2 ⟨b.val * 256 + r.val, by omega⟩ ⟨3 * 128 + d.val, by omega⟩) := fun r d => by
    refine Eq.trans ?_ (blk3 m c t b T ht r ⟨3 * 128 + d.val, by omega⟩)
    pointwise
  rw [← blk5 m c t]
  refine h1_eq b T _ _ _ _ _ _ _ _ _ (fun r d => ?_) (fun r d => ?_) (fun r d => ?_) (fun r d => ?_) (fun r k => blk0 m c t b T ht r k) r k
  · rw [pay11_apply]
    exact head_eq m c t b T ht h1 h2 0 _ _ _ hQ0 hK0 hV0 r d
  · exact head_eq m c t b T ht h1 h2 1 _ _ _ hQ1 hK1 hV1 r d
  · rw [pay9_eq, pay4_eq]
    exact head_eq m c t b T ht h1 h2 2 _ _ _ hQ2 hK2 hV2 r d
  · rw [pay10_eq, pay5_eq]
    exact head_eq m c t b T ht h1 h2 3 _ _ _ hQ3 hK3 hV3 r d

/-- The normalised stream, as the run computes it in a tile, is the reference's. -/
theorem hn_at (h1 : ∀ i, IsReal (m ((c.tc : Thread nD τ).loc main_arg1) i : EReal)) (h2 : ∀ i, IsReal (m ((c.tc : Thread nD τ).loc main_arg2) i : EReal)) (r : Fin 512) (k : Fin 1024) :
    k0_pay14 (F := Ideal) (k0_pay8 (F := Ideal) (k0_pay3 (View.ld (Val := Elt Ideal) (e' := .bf16) (iblk m c 1 t) (Rect.unit (s := S512x512) ![0, 128] S512x128.size inb_S512x512_S512x128_0_128)) (View.ld (Val := Elt Ideal) (e' := .f32) (iblk m c 2 t) (Rect.unit (s := S256x512) ![0, 128] S256x128.size inb_S256x512_S256x128_0_128))))
      (k0_pay9 (F := Ideal) (k0_pay4 (View.ld (Val := Elt Ideal) (e' := .bf16) (iblk m c 1 t) (Rect.unit (s := S512x512) ![0, 256] S512x128.size inb_S512x512_S512x128_0_256)) (View.ld (Val := Elt Ideal) (e' := .f32) (iblk m c 2 t) (Rect.unit (s := S256x512) ![0, 256] S256x128.size inb_S256x512_S256x128_0_256))))
      (k0_pay10 (F := Ideal) (k0_pay5 (View.ld (Val := Elt Ideal) (e' := .bf16) (iblk m c 1 t) (Rect.unit (s := S512x512) ![0, 384] S512x128.size inb_S512x512_S512x128_0_384)) (View.ld (Val := Elt Ideal) (e' := .f32) (iblk m c 2 t) (Rect.unit (s := S256x512) ![0, 384] S256x128.size inb_S256x512_S256x128_0_384))))
      (k0_pay11 (F := Ideal) (k0_pay6 (View.ld (Val := Elt Ideal) (e' := .bf16) (iblk m c 1 t) (Rect.unit (s := S512x512) ![0, 0] S512x128.size inb_S512x512_S512x128_0_0)) (View.ld (Val := Elt Ideal) (e' := .f32) (iblk m c 2 t) (Rect.unit (s := S256x512) ![0, 0] S256x128.size inb_S256x512_S256x128_0_0))) (k0_pay7 (View.ld (Val := Elt Ideal) (e' := .bf16) (iblk m c 1 t) (Rect.unit (s := S512x512) ![0, 0] S512x128.size inb_S512x512_S512x128_0_0)) (View.ld (Val := Elt Ideal) (e' := .f32) (iblk m c 2 t) (Rect.unit (s := S256x512) ![0, 0] S256x128.size inb_S256x512_S256x128_0_0))) (FloatOps.ofBits FTy.f32 0x3F800000#32) (View.ld (Val := Elt Ideal) (e' := .f32) (iblk m c 3 t) (Rect.unit (s := S256x512) ![0, 0] S256x128.size inb_S256x512_S256x128_0_0)))
      (View.ld (Val := Elt Ideal) (e' := .f32) (iblk m c 3 t) (Rect.unit (s := S256x512) ![0, 128] S256x128.size inb_S256x512_S256x128_0_128)) (View.ld (Val := Elt Ideal) (e' := .f32) (iblk m c 3 t) (Rect.unit (s := S256x512) ![0, 256] S256x128.size inb_S256x512_S256x128_0_256)) (View.ld (Val := Elt Ideal) (e' := .f32) (iblk m c 3 t) (Rect.unit (s := S256x512) ![0, 384] S256x128.size inb_S256x512_S256x128_0_384)) (iblk m c 0 t) (iblk m c 5 t) (iblk m c 6 t) (ix2 r k)
      = val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (ix3 b (row T r) k) := by
  rw [← blk6 m c t, ← blk5 m c t]
  refine hn_eq b T _ _ _ _ _ _ _ _ _ _ (fun r k => ?_) r k
  have e := h1_at m c t b T ht h1 h2 r k
  rw [← blk5 m c t] at e
  exact e

end Cert.Ffn.Val
end
-- ==== Proof.FfnScr.lean ====
module

public import proofs.«01_k».proof.Proof.FfnPoint
public import proofs.«01_k».proof.Proof.Gen.Kernel3Ideal.Frame
public import proofs.«01_k».proof.Proof.Gen.Kernel3Ideal.Value
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Ffn.Val
open Cert.Kernel3Ideal Cert.Kernel3Ideal.Gen Cert.Soft Cert.Ffn.Ker
open Cert.Reference3Ideal.Read (val_main_v7 val_main_v14 val_main_v18 val_main_v21 val_main_v24 val_main_v37 val_main_v40 val_main_v41 val_main_v42 val_main_v44 val_main_v66 val_main_v68 val_main_v71 val_main_v85)

variable (m : (ℓ : Loc nD τ sig) → Buf (Elt Ideal) ℓ)

/-- The scratch buffer after a point's two writes: the first eight rows are the carried ones, the other 512 the tile's. -/
theorem scratch_eq (X : Vec Ideal S512x2816 .f32) (Y : Vec Ideal S8x2816 .f32) (j : Fin 520) (k : Fin 2816) :
    View.canon (Val := Elt Ideal) [⟨Rect.unit (s := S520x2816) ![8, 0] S512x2816.size inb_S520x2816_S512x2816_8_0, X⟩, ⟨Rect.unit (s := S520x2816) ![0, 0] S8x2816.size inb_S520x2816_S8x2816_0_0, Y⟩] (ix2 j k)
      = if h : j.val < 8 then Y (ix2 ⟨j.val, h⟩ k) else X (ix2 ⟨j.val - 8, by omega⟩ k) := by
  split
  · rename_i h
    rw [View.canon_cons_of_not_mem]
    · have e : ix2 j k = (Rect.unit (s := S520x2816) ![0, 0] S8x2816.size inb_S520x2816_S8x2816_0_0).emb (ix2 ⟨j.val, h⟩ k) := by idx_ext
      rw [e]; exact View.canon_cons_emb _ _ _ _
    · mem_blk
      intro hm
      have h0 : 8 ≤ j.val := (hm 0).1
      omega
  · rename_i h
    have e : ix2 j k = (Rect.unit (s := S520x2816) ![8, 0] S512x2816.size inb_S520x2816_S512x2816_8_0).emb (ix2 ⟨j.val - 8, by omega⟩ k) := by idx_ext
    rw [e]; exact View.canon_cons_emb _ _ _ _

variable (c : Dev nD) (t : Fin cfg0.N)

/-- The normalised stream of a point's tile, as the run spells it. -/
def HN : FVec Ideal S512x1024 .bf16 := k0_pay14 (F := Ideal) (k0_pay8 (F := Ideal) (k0_pay3 (View.ld (Val := Elt Ideal) (e' := .bf16) (iblk m c 1 t) (Rect.unit (s := S512x512) ![0, 128] S512x128.size inb_S512x512_S512x128_0_128)) (View.ld (Val := Elt Ideal) (e' := .f32) (iblk m c 2 t) (Rect.unit (s := S256x512) ![0, 128] S256x128.size inb_S256x512_S256x128_0_128))))
      (k0_pay9 (F := Ideal) (k0_pay4 (View.ld (Val := Elt Ideal) (e' := .bf16) (iblk m c 1 t) (Rect.unit (s := S512x512) ![0, 256] S512x128.size inb_S512x512_S512x128_0_256)) (View.ld (Val := Elt Ideal) (e' := .f32) (iblk m c 2 t) (Rect.unit (s := S256x512) ![0, 256] S256x128.size inb_S256x512_S256x128_0_256))))
      (k0_pay10 (F := Ideal) (k0_pay5 (View.ld (Val := Elt Ideal) (e' := .bf16) (iblk m c 1 t) (Rect.unit (s := S512x512) ![0, 384] S512x128.size inb_S512x512_S512x128_0_384)) (View.ld (Val := Elt Ideal) (e' := .f32) (iblk m c 2 t) (Rect.unit (s := S256x512) ![0, 384] S256x128.size inb_S256x512_S256x128_0_384))))
      (k0_pay11 (F := Ideal) (k0_pay6 (View.ld (Val := Elt Ideal) (e' := .bf16) (iblk m c 1 t) (Rect.unit (s := S512x512) ![0, 0] S512x128.size inb_S512x512_S512x128_0_0)) (View.ld (Val := Elt Ideal) (e' := .f32) (iblk m c 2 t) (Rect.unit (s := S256x512) ![0, 0] S256x128.size inb_S256x512_S256x128_0_0))) (k0_pay7 (View.ld (Val := Elt Ideal) (e' := .bf16) (iblk m c 1 t) (Rect.unit (s := S512x512) ![0, 0] S512x128.size inb_S512x512_S512x128_0_0)) (View.ld (Val := Elt Ideal) (e' := .f32) (iblk m c 2 t) (Rect.unit (s := S256x512) ![0, 0] S256x128.size inb_S256x512_S256x128_0_0))) (FloatOps.ofBits FTy.f32 0x3F800000#32) (View.ld (Val := Elt Ideal) (e' := .f32) (iblk m c 3 t) (Rect.unit (s := S256x512) ![0, 0] S256x128.size inb_S256x512_S256x128_0_0)))
      (View.ld (Val := Elt Ideal) (e' := .f32) (iblk m c 3 t) (Rect.unit (s := S256x512) ![0, 128] S256x128.size inb_S256x512_S256x128_0_128)) (View.ld (Val := Elt Ideal) (e' := .f32) (iblk m c 3 t) (Rect.unit (s := S256x512) ![0, 256] S256x128.size inb_S256x512_S256x128_0_256)) (View.ld (Val := Elt Ideal) (e' := .f32) (iblk m c 3 t) (Rect.unit (s := S256x512) ![0, 384] S256x128.size inb_S256x512_S256x128_0_384)) (iblk m c 0 t) (iblk m c 5 t) (iblk m c 6 t)

/-- The residual stream of a point's tile, as the run spells it. -/
def H1 : FVec Ideal S512x1024 .f32 := k0_pay13 (F := Ideal) (k0_pay8 (F := Ideal) (k0_pay3 (View.ld (Val := Elt Ideal) (e' := .bf16) (iblk m c 1 t) (Rect.unit (s := S512x512) ![0, 128] S512x128.size inb_S512x512_S512x128_0_128)) (View.ld (Val := Elt Ideal) (e' := .f32) (iblk m c 2 t) (Rect.unit (s := S256x512) ![0, 128] S256x128.size inb_S256x512_S256x128_0_128))))
      (k0_pay9 (F := Ideal) (k0_pay4 (View.ld (Val := Elt Ideal) (e' := .bf16) (iblk m c 1 t) (Rect.unit (s := S512x512) ![0, 256] S512x128.size inb_S512x512_S512x128_0_256)) (View.ld (Val := Elt Ideal) (e' := .f32) (iblk m c 2 t) (Rect.unit (s := S256x512) ![0, 256] S256x128.size inb_S256x512_S256x128_0_256))))
      (k0_pay10 (F := Ideal) (k0_pay5 (View.ld (Val := Elt Ideal) (e' := .bf16) (iblk m c 1 t) (Rect.unit (s := S512x512) ![0, 384] S512x128.size inb_S512x512_S512x128_0_384)) (View.ld (Val := Elt Ideal) (e' := .f32) (iblk m c 2 t) (Rect.unit (s := S256x512) ![0, 384] S256x128.size inb_S256x512_S256x128_0_384))))
      (k0_pay11 (F := Ideal) (k0_pay6 (View.ld (Val := Elt Ideal) (e' := .bf16) (iblk m c 1 t) (Rect.unit (s := S512x512) ![0, 0] S512x128.size inb_S512x512_S512x128_0_0)) (View.ld (Val := Elt Ideal) (e' := .f32) (iblk m c 2 t) (Rect.unit (s := S256x512) ![0, 0] S256x128.size inb_S256x512_S256x128_0_0))) (k0_pay7 (View.ld (Val := Elt Ideal) (e' := .bf16) (iblk m c 1 t) (Rect.unit (s := S512x512) ![0, 0] S512x128.size inb_S512x512_S512x128_0_0)) (View.ld (Val := Elt Ideal) (e' := .f32) (iblk m c 2 t) (Rect.unit (s := S256x512) ![0, 0] S256x128.size inb_S256x512_S256x128_0_0))) (FloatOps.ofBits FTy.f32 0x3F800000#32) (View.ld (Val := Elt Ideal) (e' := .f32) (iblk m c 3 t) (Rect.unit (s := S256x512) ![0, 0] S256x128.size inb_S256x512_S256x128_0_0)))
      (View.ld (Val := Elt Ideal) (e' := .f32) (iblk m c 3 t) (Rect.unit (s := S256x512) ![0, 128] S256x128.size inb_S256x512_S256x128_0_128)) (View.ld (Val := Elt Ideal) (e' := .f32) (iblk m c 3 t) (Rect.unit (s := S256x512) ![0, 256] S256x128.size inb_S256x512_S256x128_0_256)) (View.ld (Val := Elt Ideal) (e' := .f32) (iblk m c 3 t) (Rect.unit (s := S256x512) ![0, 384] S256x128.size inb_S256x512_S256x128_0_384)) (iblk m c 0 t) (iblk m c 5 t)

/-- The scratch buffer's two writes at a point, over the rows carried in. -/
def scr (tail : Vec Ideal S1x8x2816 .f32) : List (View.Piece (Elt Ideal) S520x2816 .f32) :=
  [⟨Rect.unit (s := S520x2816) ![8, 0] S512x2816.size inb_S520x2816_S512x2816_8_0, k0_pay18 (F := Ideal) (HN m c t) (iblk m c 7 t)⟩, ⟨Rect.unit (s := S520x2816) ![0, 0] S8x2816.size inb_S520x2816_S8x2816_0_0, k0_pay17 (F := Ideal) tail⟩]

/-- The scratch rows from `o` on, as a load of 512 rows reads them. -/
theorem scr_load (tail : Vec Ideal S1x8x2816 .f32) (o : Fin 9) (j : Fin 512) (k : Fin 2816) (h : ∀ a, ![o.val, 0] a + S512x2816.size a ≤ S520x2816.size a) :
    (View.whole cc0_scratch0).readCov (Val := Elt Ideal) (scr m c t tail) (Rect.unit (s := S520x2816) ![o.val, 0] S512x2816.size h).toLoadRect (ix2 j k)
      = if h : o.val + j.val < 8 then tail (ix3 0 ⟨o.val + j.val, h⟩ k) else k0_pay15 (F := Ideal) (HN m c t) (iblk m c 7 t) (ix2 ⟨o.val + j.val - 8, by omega⟩ k) := by
  rw [View.readCov_eq_canon']
  refine (congrArg _ (show _ = ix2 ⟨o.val + j.val, by omega⟩ k by idx_ext)).trans ?_
  refine (scratch_eq _ _ ⟨o.val + j.val, by omega⟩ k).trans ?_
  unfold k0_pay18 k0_pay17
  generalize k0_pay15 (F := Ideal) (HN m c t) (iblk m c 7 t) = s
  pointwise

/-- The scratch's last eight rows. -/
theorem scr_last (tail : Vec Ideal S1x8x2816 .f32) (j : Fin 8) (k : Fin 2816) :
    (View.whole cc0_scratch0).readCov (Val := Elt Ideal) (scr m c t tail) (Rect.unit (s := S520x2816) ![512, 0] S8x2816.size inb_S520x2816_S8x2816_512_0).toLoadRect (ix2 j k)
      = k0_pay15 (F := Ideal) (HN m c t) (iblk m c 7 t) (ix2 ⟨504 + j.val, by omega⟩ k) := by
  rw [View.readCov_eq_canon']
  refine (congrArg _ (show _ = ix2 ⟨512 + j.val, by omega⟩ k by idx_ext)).trans ?_
  refine (scratch_eq _ _ ⟨512 + j.val, by omega⟩ k).trans ?_
  rw [dif_neg (show ¬ (512 + j.val < 8) by omega)]
  unfold k0_pay18
  generalize k0_pay15 (F := Ideal) (HN m c t) (iblk m c 7 t) = s
  pointwise
  exact congrArg s (by idx_ext)

end Cert.Ffn.Val
end
-- ==== Proof.FfnOut.lean ====
module

public import proofs.«01_k».proof.Proof.FfnScr
public import proofs.«01_k».proof.Proof.Gen.Kernel3Ideal.Frame
public import proofs.«01_k».proof.Proof.Gen.Kernel3Ideal.Value
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Ffn.Val
open Cert.Kernel3Ideal Cert.Kernel3Ideal.Gen Cert.Soft Cert.Ffn.Ker
open Cert.Reference3Ideal.Read (val_main_v7 val_main_v14 val_main_v18 val_main_v21 val_main_v24 val_main_v37 val_main_v40 val_main_v41 val_main_v42 val_main_v44 val_main_v66 val_main_v68 val_main_v71 val_main_v85)

variable (m : (ℓ : Loc nD τ sig) → Buf (Elt Ideal) ℓ)

variable (c : Dev nD) (t : Fin cfg0.N) (b : Fin 8) (T : Fin 4) (ht : t.val = b.val * 4 + T.val)
include ht

/-- The up projection's value half in a tile is the reference's. -/
theorem u_at (h1 : ∀ i, IsReal (m ((c.tc : Thread nD τ).loc main_arg1) i : EReal)) (h2 : ∀ i, IsReal (m ((c.tc : Thread nD τ).loc main_arg2) i : EReal)) (r : Fin 512) (k : Fin 2816) :
    k0_pay15 (F := Ideal) (HN m c t) (iblk m c 7 t) (ix2 r k) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (ix3 b (row T r) k) :=
  u_eq b T _ _ (fun r k => hn_at m c t b T ht h1 h2 r k) (fun r k => blk7 m c t b T r k) r k

/-- The rows carried to the next tile: the tile's last eight rows of the value half, whatever was carried in. -/
theorem tail_val (h1 : ∀ i, IsReal (m ((c.tc : Thread nD τ).loc main_arg1) i : EReal)) (h2 : ∀ i, IsReal (m ((c.tc : Thread nD τ).loc main_arg2) i : EReal)) (tail : Vec Ideal S1x8x2816 .f32) (r : Fin 8) (k : Fin 2816) :
    k0_pay20 (F := Ideal) ((View.whole cc0_scratch0).readCov (Val := Elt Ideal) (scr m c t tail) (Rect.unit (s := S520x2816) ![512, 0] S8x2816.size inb_S520x2816_S8x2816_512_0).toLoadRect) (ix3 0 r k)
      = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (ix3 b (row T ⟨504 + r.val, by omega⟩) k) := by
  rw [← u_at m c t b T ht h1 h2, ← scr_last m c t tail r k]
  generalize (View.whole cc0_scratch0).readCov (Val := Elt Ideal) (scr m c t tail) (Rect.unit (s := S520x2816) ![512, 0] S8x2816.size inb_S520x2816_S8x2816_512_0).toLoadRect = s
  pointwise [k0_pay20]

/-- The scratch rows one and two before the tile's own are the convolution's history. -/
theorem hist (h1 : ∀ i, IsReal (m ((c.tc : Thread nD τ).loc main_arg1) i : EReal)) (h2 : ∀ i, IsReal (m ((c.tc : Thread nD τ).loc main_arg2) i : EReal)) (tail : Vec Ideal S1x8x2816 .f32)
    (hT : ∀ (o : Fin 2) (k : Fin 2816), tail (ix3 0 ⟨6 + o.val, by omega⟩ k) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b ⟨o.val + T.val * 512, by omega⟩ k))
    (o : Fin 2) (j : Fin 512) (k : Fin 2816) (h : ∀ a, ![6 + o.val, 0] a + S512x2816.size a ≤ S520x2816.size a) :
    (View.whole cc0_scratch0).readCov (Val := Elt Ideal) (scr m c t tail) (Rect.unit (s := S520x2816) ![6 + o.val, 0] S512x2816.size h).toLoadRect (ix2 j k)
      = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b ⟨o.val + (row T j).val, by omega⟩ k) := by
  refine (scr_load m c t tail ⟨6 + o.val, by omega⟩ j k h).trans ?_
  split
  · rename_i hj
    have hj' : 6 + o.val + j.val < 8 := hj
    refine Eq.trans ?_ ((hT ⟨o.val + j.val, by omega⟩ k).trans ?_)
    · exact congrArg tail (by idx_ext)
    · exact congrArg _ (by idx_ext)
  · rename_i hj
    have hj' : ¬ 6 + o.val + j.val < 8 := hj
    rw [u_at m c t b T ht h1 h2, Ref.v44_apply, dif_neg (show ¬ (o.val + (T.val * 512 + j.val) < 2) by omega)]
    exact congrArg _ (by idx_ext)

/-- What a point writes to the layer's result, given that the rows carried in are the convolution's history. -/
theorem out_val (h1 : ∀ i, IsReal (m ((c.tc : Thread nD τ).loc main_arg1) i : EReal)) (h2 : ∀ i, IsReal (m ((c.tc : Thread nD τ).loc main_arg2) i : EReal)) (tail : Vec Ideal S1x8x2816 .f32)
    (hT : ∀ (o : Fin 2) (k : Fin 2816), tail (ix3 0 ⟨6 + o.val, by omega⟩ k) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b ⟨o.val + T.val * 512, by omega⟩ k))
    (r : Fin 512) (k : Fin 1024) :
    k0_pay2 (F := Ideal) (k0_pay1 (F := Ideal) (k0_pay16 (F := Ideal) (HN m c t) (iblk m c 8 t))
        (k0_pay19 (F := Ideal) (HN m c t) (iblk m c 7 t) (iblk m c 9 t) ((View.whole cc0_scratch0).readCov (Val := Elt Ideal) (scr m c t tail) (Rect.unit (s := S520x2816) ![6, 0] S512x2816.size inb_S520x2816_S512x2816_6_0).toLoadRect) ((View.whole cc0_scratch0).readCov (Val := Elt Ideal) (scr m c t tail) (Rect.unit (s := S520x2816) ![7, 0] S512x2816.size inb_S520x2816_S512x2816_7_0).toLoadRect))
        (H1 m c t)
        (k0_pay21 (F := Ideal) (HN m c t) (iblk m c 7 t) (iblk m c 9 t) ((View.whole cc0_scratch0).readCov (Val := Elt Ideal) (scr m c t tail) (Rect.unit (s := S520x2816) ![6, 0] S512x2816.size inb_S520x2816_S512x2816_6_0).toLoadRect) ((View.whole cc0_scratch0).readCov (Val := Elt Ideal) (scr m c t tail) (Rect.unit (s := S520x2816) ![7, 0] S512x2816.size inb_S520x2816_S512x2816_7_0).toLoadRect))
        (iblk m c 10 t)) (iblk m c 11 t) (ix2 r k)
      = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 ⟨b.val * 2048 + (row T r).val, by omega⟩ k) := by
  have hA := fun r k => hist m c t b T ht h1 h2 tail hT 0 r k inb_S520x2816_S512x2816_6_0
  have hB := fun r k => hist m c t b T ht h1 h2 tail hT 1 r k inb_S520x2816_S512x2816_7_0
  rw [← blk11 m c t, ← blk10 m c t, ← blk9 m c t]
  refine out_eq b T _ _ (fun r k => ?_) r k
  refine h2_eq b T _ _ _ _ _ (fun r k => ?_) (fun r k => ?_) (fun r k => ?_) (fun r k => ?_) r k
  · exact gate_eq b T _ _ (fun r k => hn_at m c t b T ht h1 h2 r k) (fun r k => blk8 m c t b T r k) r k
  · refine conv_eq b T _ _ _ _ _ (fun r k => u_at m c t b T ht h1 h2 r k) (fun r k => ?_) (fun r k => ?_) r k
    · refine (hA r k).trans (congrArg _ (by idx_ext))
    · exact hB r k
  · rfl
  · refine Eq.trans ?_ (h1_at m c t b T ht h1 h2 r k)
    unfold H1 k0_pay13 k0_pay12
    pointwise

end Cert.Ffn.Val
end
-- ==== Proof.FfnFinal.lean ====
module

public import proofs.«01_k».proof.Proof.FfnOut
public import proofs.«01_k».proof.Proof.Gen.Kernel3Ideal.Frame
public import proofs.«01_k».proof.Proof.Gen.Kernel3Ideal.Value
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Ffn.Val
open Cert.Kernel3Ideal Cert.Kernel3Ideal.Gen Cert.Soft Cert.Ffn.Ker
open Cert.Reference3Ideal.Read (val_main_v7 val_main_v14 val_main_v18 val_main_v21 val_main_v24 val_main_v37 val_main_v40 val_main_v41 val_main_v42 val_main_v44 val_main_v66 val_main_v68 val_main_v71 val_main_v85)

variable (m : (ℓ : Loc nD τ sig) → Buf (Elt Ideal) ℓ)

variable (c : Dev nD)

/-- After every point, the carried rows are the last eight rows of the value half in the point's tile. -/
theorem tail_at (h1 : ∀ i, IsReal (m ((c.tc : Thread nD τ).loc main_arg1) i : EReal)) (h2 : ∀ i, IsReal (m ((c.tc : Thread nD τ).loc main_arg2) i : EReal)) (t : Fin cfg0.N) (b : Fin 8) (T : Fin 4) (ht : t.val = b.val * 4 + T.val) (r : Fin 8) (k : Fin 2816) :
    (outsAt0 (F := Ideal) m c t.val t.isLt).2 (ix3 0 r k) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (ix3 b (row T ⟨504 + r.val, by omega⟩) k) := by
  by_cases h : t.val % 4 = 0
  · rw [outsAt0_A m c t h]
    frame_out
    exact tail_val m c t b T ht h1 h2 _ r k
  · rw [outsAt0_B m c t h]
    frame_out
    exact tail_val m c t b T ht h1 h2 _ r k

/-- At a sequence's first tile, the rows carried in are the given history. -/
theorem hist_A (t : Fin cfg0.N) (b : Fin 8) (T : Fin 4) (ht : t.val = b.val * 4 + T.val) (h : t.val % 4 = 0) (o : Fin 2) (k : Fin 2816) :
    iblk (F := Ideal) m c 4 t (ix3 0 ⟨6 + o.val, by omega⟩ k) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b ⟨o.val + T.val * 512, by omega⟩ k) := by
  rw [Ref.v44_apply, dif_pos (show o.val + T.val * 512 < 2 by omega), blk4 m c t b T ht]
  exact congrArg _ (by idx_ext)

/-- At a later tile, the rows carried in are the previous tile's last ones. -/
theorem hist_B (h1 : ∀ i, IsReal (m ((c.tc : Thread nD τ).loc main_arg1) i : EReal)) (h2 : ∀ i, IsReal (m ((c.tc : Thread nD τ).loc main_arg2) i : EReal)) (t : Fin cfg0.N) (b : Fin 8) (T : Fin 4) (ht : t.val = b.val * 4 + T.val) (h : ¬ t.val % 4 = 0) (hp : t.val - 1 < cfg0.N) (o : Fin 2) (k : Fin 2816) :
    (outsAt0 (F := Ideal) m c (t.val - 1) hp).2 (ix3 0 ⟨6 + o.val, by omega⟩ k) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b ⟨o.val + T.val * 512, by omega⟩ k) := by
  rw [Ref.v44_apply, dif_neg (show ¬ (o.val + T.val * 512 < 2) by omega)]
  refine (tail_at m c h1 h2 ⟨t.val - 1, hp⟩ b ⟨T.val - 1, by omega⟩ (show t.val - 1 = b.val * 4 + (T.val - 1) by omega) ⟨6 + o.val, by omega⟩ k).trans ?_
  exact congrArg _ (by idx_ext)

/-- A point's block of the layer's result is the reference's. -/
theorem out_at (h1 : ∀ i, IsReal (m ((c.tc : Thread nD τ).loc main_arg1) i : EReal)) (h2 : ∀ i, IsReal (m ((c.tc : Thread nD τ).loc main_arg2) i : EReal)) (t : Fin cfg0.N) (b : Fin 8) (T : Fin 4) (ht : t.val = b.val * 4 + T.val) (r : Fin 512) (k : Fin 1024) :
    (outsAt0 (F := Ideal) m c t.val t.isLt).1 (ix2 r k) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 ⟨b.val * 2048 + (row T r).val, by omega⟩ k) := by
  by_cases h : t.val % 4 = 0
  · rw [outsAt0_A m c t h]
    frame_out
    exact out_val m c t b T ht h1 h2 _ (fun o k => hist_A m c t b T ht h o k) r k
  · rw [outsAt0_B m c t h]
    frame_out
    exact out_val m c t b T ht h1 h2 _ (fun o k => hist_B m c h1 h2 t b T ht h _ o k) r k

/-- The run's result array is the reference's. -/
theorem final12 (h1 : ∀ i, IsReal (m ((c.tc : Thread nD τ).loc main_arg1) i : EReal)) (h2 : ∀ i, IsReal (m ((c.tc : Thread nD τ).loc main_arg2) i : EReal)) : (dats (F := Ideal) m 0 c).arrAt 12 cfg0.N = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats (F := Ideal) m 0 c).arrAt_eq_of_covers 12 (val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (by decide +kernel) fun t hf y => ?_
  have hN : t.val < 32 := lt_of_lt_of_eq t.isLt (show cfg0.N = 32 from N_0)
  blk_simp
  rw [after0_12]
  idx_vars y
  refine (out_at m c h1 h2 t ⟨t.val / 4, by omega⟩ ⟨t.val % 4, by omega⟩ (show t.val = t.val / 4 * 4 + t.val % 4 by omega) _ _).trans ?_
  refine congrArg _ ?_
  blk_ext [idx t]

/-- The run's history array is the reference's. -/
theorem final13 (h1 : ∀ i, IsReal (m ((c.tc : Thread nD τ).loc main_arg1) i : EReal)) (h2 : ∀ i, IsReal (m ((c.tc : Thread nD τ).loc main_arg2) i : EReal)) : (dats (F := Ideal) m 0 c).arrAt 13 cfg0.N = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  refine (dats (F := Ideal) m 0 c).arrAt_eq_of_covers 13 (val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))) (by decide +kernel) fun t hf y => ?_
  have hN : t.val < 32 := lt_of_lt_of_eq t.isLt (show cfg0.N = 32 from N_0)
  have h3 := (flush0_13 t).mp hf
  blk_simp
  rw [after0_13]
  idx_vars y
  have e0 : y0 = 0 := Subsingleton.elim _ _
  subst e0
  have e : ((View.whole main_v0_1).slice (win0_13.rect t)).emb (ix3 0 y1 y2) = ix3 ⟨t.val / 4, by omega⟩ y1 y2 := by
    blk_ext [idx t]
  refine Eq.trans ?_ (congrArg _ e.symm)
  rw [Ref.v42_apply]
  refine (tail_at m c h1 h2 t ⟨t.val / 4, by omega⟩ ⟨t.val % 4, by omega⟩ (show t.val = t.val / 4 * 4 + t.val % 4 by omega) _ _).trans ?_
  exact congrArg _ (by idx_ext)

end Cert.Ffn.Val
end
-- ==== Proof.FfnClaim.lean ====
module

public import proofs.«01_k».proof.Proof.FfnFinal
public import proofs.«01_k».proof.Proof.Gen.Kernel3Ideal.Frame
public import proofs.«01_k».proof.Proof.Gen.Kernel3Ideal.Value
public import Idealize.ShloMosaic.Lib.Pointwise
public import Idealize.ShloMosaic.Lib.Pipeline.ValueKit
public import Idealize.ShloMosaic.Lib.Pipeline.Value
public import Idealize.ShloMosaic.Lib.IdealHost
public import Idealize.ShloMosaic.Lib.Claim
public import proofs.«01_k».proof.Defs
public import proofs.«01_k».proof.Proof.Gen.Reference3Ideal.Run

@[expose] public section

set_option maxRecDepth 16384

noncomputable section

open Idealize.ShloMosaic Idealize.ShloMosaic.TcCoe Idealize.SL.Sem

open Idealize.ShloMosaic.Pipeline (Dat)

namespace Cert.Decode
open Cert.Soft

theorem ofBits_top : Ideal.ofBits FTy.f32 0x7F800000#32 = ⊤ := by simp [Ideal.ofBits, Ideal.ieee]
theorem ofBits_bot : Ideal.ofBits FTy.f32 0xFF800000#32 = ⊥ := by simp [Ideal.ofBits, Ideal.ieee]

theorem and_one (a b : BitVec 1) : (a &&& b = 1#1) ↔ a = 1#1 ∧ b = 1#1 := by
  revert a b; decide

/-- A number below plus infinity and above minus infinity is real. -/
theorem isReal_of_cmp (x : EReal) (h : (Ideal.cmp .olt x (Ideal.ofBits FTy.f32 0x7F800000#32) : BitVec 1) &&& Ideal.cmp .ogt x (Ideal.ofBits FTy.f32 0xFF800000#32) = 1#1) : IsReal x := by
  rw [and_one, ofBits_top, ofBits_bot] at h
  simp only [Ideal.cmp] at h
  constructor
  · rintro rfl; simp at h
  · rintro rfl; simp at h

/-- A number below plus infinity is not plus infinity. -/
theorem ne_top_of_cmp (x : EReal) (h : (Ideal.cmp .olt x (Ideal.ofBits FTy.f32 0x7F800000#32) : BitVec 1) = 1#1) : x ≠ ⊤ := by
  rw [ofBits_top] at h
  simp only [Ideal.cmp] at h
  rintro rfl; simp at h

end Cert.Decode

namespace Cert.Ffn
open Cert.Soft

/-- The precondition's side conditions. -/
theorem pre_facts : Cert.Pre_real_scores3.Facts where
  bitsLt_bf16_f32 := by decide
  bcast_S_S16384x512 := by decide
  bcast_S_S2048x512 := by decide

/-- Under the precondition the queries are real numbers. -/
theorem pre_q (m : (ℓ : Loc Cert.Kernel3Ideal.nD Cert.Kernel3Ideal.τ Cert.Kernel3Ideal.sig) → Buf (Elt Ideal) ℓ) (h : Cert.Pre_Kernel3Ideal_real_scores3 (hPre_real_scores3 := pre_facts) m) (c : Dev Cert.Kernel3Ideal.nD) (i) :
    IsReal (m ((c.tc : Thread Cert.Kernel3Ideal.nD Cert.Kernel3Ideal.τ).loc Cert.Kernel3Ideal.main_arg1) i : EReal) :=
  Decode.isReal_of_cmp _ (congrFun (h c).1 i)

/-- Under the precondition the memory's keys are real numbers. -/
theorem pre_k (m : (ℓ : Loc Cert.Kernel3Ideal.nD Cert.Kernel3Ideal.τ Cert.Kernel3Ideal.sig) → Buf (Elt Ideal) ℓ) (h : Cert.Pre_Kernel3Ideal_real_scores3 (hPre_real_scores3 := pre_facts) m) (c : Dev Cert.Kernel3Ideal.nD) (i) :
    IsReal (m ((c.tc : Thread Cert.Kernel3Ideal.nD Cert.Kernel3Ideal.τ).loc Cert.Kernel3Ideal.main_arg2) i : EReal) :=
  Decode.isReal_of_cmp _ (congrFun (h c).2 i)

set_option maxHeartbeats 1600000 in
/-- The feed-forward kernel over the extended reals and its reference, run on the same arrays, return the same results. -/
theorem algebraic : Cert.algebraic_Kernel3Ideal_Reference3Ideal_pre_real_scores3 (hKernel3Ideal := Cert.Kernel3Ideal.Gen.facts) (hReference3Ideal := Cert.Reference3Ideal.Gen.facts) (hPre_real_scores3 := pre_facts) := by
  pair_intro
  · run_from Cert.Kernel3Ideal.Gen.run_main m g
  · run_from Cert.Reference3Ideal.Value.run m' g'
    · obtain ⟨e0, e1, e2, e3, e4, e5, e6, e7, e8, e9, e10⟩ := hagree c
      refine Eq.trans ?_ (Val.final12 m c (pre_q m hpre c) (pre_k m hpre c)).symm
      rw [← e0, ← e1, ← e2, ← e3, ← e4, ← e5, ← e6, ← e7, ← e8, ← e9, ← e10]
      exact Cert.Reference3Ideal.Read.val_main_v85_eq (F := Ideal) (StableHlo.launchContents m' c)
    · obtain ⟨e0, e1, e2, e3, e4, e5, e6, e7, e8, e9, e10⟩ := hagree c
      refine Eq.trans ?_ (Val.final13 m c (pre_q m hpre c) (pre_k m hpre c)).symm
      rw [← e0, ← e1, ← e2, ← e3, ← e5, ← e6, ← e7]
      exact Cert.Reference3Ideal.Read.val_main_v42_eq (F := Ideal) (StableHlo.launchContents m' c)

end Cert.Ffn
end
-- ==== Proof.MergeRef.lean ====
module

public import proofs.«01_k».proof.Proof.Gen.ReferenceIdeal.Read
public import Idealize.ShloMosaic.Lib.Pointwise
public import Idealize.ShloMosaic.Lib.ValueIdxRank6
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

namespace Cert.Merge.Ref
open Cert.ReferenceIdeal Cert.ReferenceIdeal.Gen Cert.ReferenceIdeal.Read

/-- The window, in the program's integers: row `i` sees column `s` when `i < s ≤ i + 128` and the column's position is
    not before the sequence's start. -/
theorem mask_bits (n i s : ℕ) (hn : n < 16) (hi : i < 128) (hs : s < 256) :
    IntOp.andi (IntOp.andi
        (IntOp.cmpi .sge ((BitVec.ofNat 32 n * 128#32 + BitVec.ofNat 32 i) - (BitVec.ofNat 32 n * 128#32 + (4294967168#32 + BitVec.ofNat 32 s))) 0#32)
        (IntOp.cmpi .slt ((BitVec.ofNat 32 n * 128#32 + BitVec.ofNat 32 i) - (BitVec.ofNat 32 n * 128#32 + (4294967168#32 + BitVec.ofNat 32 s))) 128#32))
        (IntOp.cmpi .sge (BitVec.ofNat 32 n * 128#32 + (4294967168#32 + BitVec.ofNat 32 s)) 0#32)
      = if i < s ∧ s ≤ i + 128 ∧ (1 ≤ n ∨ 128 ≤ s) then 1#1 else 0#1 := by
  have e1 : ((BitVec.ofNat 32 n * 128#32 + BitVec.ofNat 32 i) - (BitVec.ofNat 32 n * 128#32 + (4294967168#32 + BitVec.ofNat 32 s))).toInt = (i : ℤ) + 128 - s := by
    rw [BitVec.toInt_eq_toNat_cond]
    simp only [BitVec.toNat_sub, BitVec.toNat_add, BitVec.toNat_mul, BitVec.toNat_ofNat]
    split <;> omega
  have e2 : (BitVec.ofNat 32 n * 128#32 + (4294967168#32 + BitVec.ofNat 32 s)).toInt = (n : ℤ) * 128 - 128 + s := by
    rw [BitVec.toInt_eq_toNat_cond]
    simp only [BitVec.toNat_sub, BitVec.toNat_add, BitVec.toNat_mul, BitVec.toNat_ofNat]
    split <;> omega
  have z : (0#32).toInt = 0 := by decide
  have z1 : (128#32).toInt = 128 := by decide
  have a1 : IntOp.cmpi .sge ((BitVec.ofNat 32 n * 128#32 + BitVec.ofNat 32 i) - (BitVec.ofNat 32 n * 128#32 + (4294967168#32 + BitVec.ofNat 32 s))) 0#32 = if s ≤ i + 128 then 1#1 else 0#1 := by
    simp only [IntOp.cmpi, BitVec.sle, e1, z]
    split <;> rename_i h
    · rw [decide_eq_true (by omega)]; rfl
    · rw [decide_eq_false (by omega)]; rfl
  have a2 : IntOp.cmpi .slt ((BitVec.ofNat 32 n * 128#32 + BitVec.ofNat 32 i) - (BitVec.ofNat 32 n * 128#32 + (4294967168#32 + BitVec.ofNat 32 s))) 128#32 = if i < s then 1#1 else 0#1 := by
    simp only [IntOp.cmpi, BitVec.slt, e1, z1]
    split <;> rename_i h
    · rw [decide_eq_true (by omega)]; rfl
    · rw [decide_eq_false (by omega)]; rfl
  have a3 : IntOp.cmpi .sge (BitVec.ofNat 32 n * 128#32 + (4294967168#32 + BitVec.ofNat 32 s)) 0#32 = if 1 ≤ n ∨ 128 ≤ s then 1#1 else 0#1 := by
    simp only [IntOp.cmpi, BitVec.sle, e2, z]
    split <;> rename_i h
    · rw [decide_eq_true (by omega)]; rfl
    · rw [decide_eq_false (by omega)]; rfl
  rw [a1, a2, a3]
  by_cases c1 : s ≤ i + 128 <;> by_cases c2 : i < s <;> by_cases c3 : 1 ≤ n ∨ 128 ≤ s <;> simp [c1, c2, c3, IntOp.andi]

/-- A host maximum over the last of six axes, at an index: the fold over that axis. -/
theorem hostMax_r6 {n0 n1 n2 n3 n4 n5 : ℕ} {u : Shape} (s : FVec Ideal ⟨6, ![n0, n1, n2, n3, n4, n5]⟩ .f32) (c : FVec Ideal u .f32) (hu : 0 < u.numel)
    (h : (⟨6, ![n0, n1, n2, n3, n4, n5]⟩ : Shape).ReducesTo [5] ⟨5, ![n0, n1, n2, n3, n4]⟩)
    (h' : (⟨6, ![n0, n1, n2, n3, n4, n5]⟩ : Shape).Reduces [5] ⟨5, ![n0, n1, n2, n3, n4]⟩) (i : Fin n0) (j : Fin n1) (k : Fin n2) (l : Fin n3) (m : Fin n4) :
    Host.reduce FloatOps.maximumf s c h hu (ix5 i j k l m)
      = Finset.fold max (c (Shape.Idx.first hu)) (fun x => s (ix6 i j k l m x)) Finset.univ := by
  rw [Host.reduce_eq_fold_single FloatOps.maximumf s _ h h' hu]
  have hf : (s ∘ h'.lift (ix5 i j k l m)) = fun x : Fin n5 => s (ix6 i j k l m x) := funext fun x => congrArg s (funext fun a => Fin.ext (by
    match a with | ⟨0, _⟩ => rfl | ⟨1, _⟩ => rfl | ⟨2, _⟩ => rfl | ⟨3, _⟩ => rfl | ⟨4, _⟩ => rfl | ⟨5, _⟩ => rfl))
  exact congrArg (fun f => Finset.fold max (c (Shape.Idx.first hu)) f (Finset.univ : Finset (Fin n5))) hf

variable (x0 : (⟨S16384x1024, .f32⟩ : BufTy).Contents (Elt Ideal)) (x1 : (⟨S8, .f32⟩ : BufTy).Contents (Elt Ideal)) (x2 : (⟨S16384x512, .bf16⟩ : BufTy).Contents (Elt Ideal)) (x3 x4 : (⟨S16384x128, .f32⟩ : BufTy).Contents (Elt Ideal)) (x5 : (⟨S16384x512, .bf16⟩ : BufTy).Contents (Elt Ideal)) (x6 x7 : (⟨S16384x1024, .f32⟩ : BufTy).Contents (Elt Ideal)) (x8 x9 : (⟨S512x1024, .bf16⟩ : BufTy).Contents (Elt Ideal)) (x10 : (⟨S1024x1024, .bf16⟩ : BufTy).Contents (Elt Ideal)) (x11 : (⟨S1x1024, .f32⟩ : BufTy).Contents (Elt Ideal)) (x12 : (⟨S1024x512, .bf16⟩ : BufTy).Contents (Elt Ideal))

/-- The pattern of f32's minus infinity denotes the least extended real. -/
theorem ofBits_bot : Ideal.ofBits FTy.f32 0xFF800000#32 = ⊥ := by simp [Ideal.ofBits, Ideal.ieee]

/-- A query's component, by sequence, block, row, key head, group and lane. -/
theorem v4_apply (b : Fin 8) (n : Fin 16) (i : Fin 128) (g : Fin 2) (h : Fin 4) (d : Fin 64) :
    val_main_v4 (F := Ideal) x2 (ix6 b n i g h d)
      = x2 (ix2 ⟨b.val * 2048 + n.val * 128 + i.val, by omega⟩ ⟨(g.val * 4 + h.val) * 64 + d.val, by omega⟩) := by
  unfold val_main_v4
  rw [shapeCast_apply (val_main_v1 (F := Ideal) x2) shapeCasts_S8x2048x8x64_S8x16x128x2x4x64 (ix6 b n i g h d)
    (ix4 b ⟨n.val * 128 + i.val, by omega⟩ ⟨g.val * 4 + h.val, by omega⟩ d)
    (by rewrite [Shape.rowMajor_val_four, Shape.rowMajor_val_six]
        show ((b.val * 2048 + (n.val * 128 + i.val)) * 8 + (g.val * 4 + h.val)) * 64 + d.val = ((((b.val * 16 + n.val) * 128 + i.val) * 2 + g.val) * 4 + h.val) * 64 + d.val
        omega)]
  rw [val_main_v1_apply, val_main_v0_apply]
  refine congrArg x2 ?_
  idx_ext

/-- A key's component, by sequence, block, row, key head and lane. -/
theorem v21_apply (b : Fin 8) (n : Fin 16) (i : Fin 128) (g : Fin 2) (d : Fin 64) :
    val_main_v21 (F := Ideal) x3 (ix5 b n i g d)
      = x3 (ix2 ⟨b.val * 2048 + n.val * 128 + i.val, by omega⟩ ⟨g.val * 64 + d.val, by omega⟩) := by
  rw [val_main_v21_apply, val_main_v2_apply]
  refine congrArg x3 ?_
  idx_ext

/-- A value's component, by sequence, block, row, key head and lane. -/
theorem v27_apply (b : Fin 8) (n : Fin 16) (i : Fin 128) (g : Fin 2) (d : Fin 64) :
    val_main_v27 (F := Ideal) x4 (ix5 b n i g d)
      = x4 (ix2 ⟨b.val * 2048 + n.val * 128 + i.val, by omega⟩ ⟨g.val * 64 + d.val, by omega⟩) := by
  rw [val_main_v27_apply, val_main_v3_apply]
  refine congrArg x4 ?_
  idx_ext

/-- The previous block's keys: zeros for the first block. -/
theorem v25_apply (b : Fin 8) (n : Fin 16) (i : Fin 128) (g : Fin 2) (d : Fin 64) :
    val_main_v25 (F := Ideal) x3 (ix5 b n i g d)
      = if h : n.val < 1 then 0 else x3 (ix2 ⟨b.val * 2048 + (n.val - 1) * 128 + i.val, by omega⟩ ⟨g.val * 64 + d.val, by omega⟩) := by
  have e : ∀ k : Fin 15, val_main_v24 (F := Ideal) x3 (ix5 b k i g d) = x3 (ix2 ⟨b.val * 2048 + k.val * 128 + i.val, by omega⟩ ⟨g.val * 64 + d.val, by omega⟩) := fun k => by
    rw [val_main_v24_apply, ← v21_apply x3 b ⟨k.val, by omega⟩ i g d]
    exact congrArg _ (by idx_ext)
  unfold val_main_v25
  generalize val_main_v24 (F := Ideal) x3 = s at e
  pointwise [val_main_v23, val_main_cst]
  simp only [e]

/-- The previous block's values: zeros for the first block. -/
theorem v31_apply (b : Fin 8) (n : Fin 16) (i : Fin 128) (g : Fin 2) (d : Fin 64) :
    val_main_v31 (F := Ideal) x4 (ix5 b n i g d)
      = if h : n.val < 1 then 0 else x4 (ix2 ⟨b.val * 2048 + (n.val - 1) * 128 + i.val, by omega⟩ ⟨g.val * 64 + d.val, by omega⟩) := by
  have e : ∀ k : Fin 15, val_main_v30 (F := Ideal) x4 (ix5 b k i g d) = x4 (ix2 ⟨b.val * 2048 + k.val * 128 + i.val, by omega⟩ ⟨g.val * 64 + d.val, by omega⟩) := fun k => by
    rw [val_main_v30_apply, ← v27_apply x4 b ⟨k.val, by omega⟩ i g d]
    exact congrArg _ (by idx_ext)
  unfold val_main_v31
  generalize val_main_v30 (F := Ideal) x4 = s at e
  pointwise [val_main_v29, val_main_cst_1]
  simp only [e]

/-- The keys a block's rows see: the previous block's, then its own. -/
theorem v26_apply (b : Fin 8) (n : Fin 16) (s : Fin 256) (g : Fin 2) (d : Fin 64) :
    val_main_v26 (F := Ideal) x3 (ix5 b n s g d)
      = if h : s.val < 128 then val_main_v25 (F := Ideal) x3 (ix5 b n ⟨s.val, h⟩ g d) else val_main_v21 (F := Ideal) x3 (ix5 b n ⟨s.val - 128, by omega⟩ g d) := by
  unfold val_main_v26
  generalize val_main_v25 (F := Ideal) x3 = s1
  generalize val_main_v21 (F := Ideal) x3 = s2
  pointwise

/-- The values a block's rows see: the previous block's, then its own. -/
theorem v32_apply (b : Fin 8) (n : Fin 16) (s : Fin 256) (g : Fin 2) (d : Fin 64) :
    val_main_v32 (F := Ideal) x4 (ix5 b n s g d)
      = if h : s.val < 128 then val_main_v31 (F := Ideal) x4 (ix5 b n ⟨s.val, h⟩ g d) else val_main_v27 (F := Ideal) x4 (ix5 b n ⟨s.val - 128, by omega⟩ g d) := by
  unfold val_main_v32
  generalize val_main_v31 (F := Ideal) x4 = s1
  generalize val_main_v27 (F := Ideal) x4 = s2
  pointwise

/-- The window's mask. -/
theorem v47_apply (n : Fin 16) (i : Fin 128) (s : Fin 256) :
    val_main_v47 (F := Ideal) (ix3 n i s) = if i.val < s.val ∧ s.val ≤ i.val + 128 ∧ (1 ≤ n.val ∨ 128 ≤ s.val) then 1#1 else 0#1 := by
  rw [← mask_bits n.val i.val s.val n.isLt i.isLt s.isLt]
  pointwise [val_main_v47, val_main_v46, val_main_v45, val_main_v44, val_main_v43, val_main_v42, val_main_v41, val_main_v40, val_main_v39, val_main_v38, val_main_v37, val_main_v36, val_main_v35, val_main_v34, val_main_v33, val_main_v20, val_main_v19, val_main_v18, val_main_v17, val_main_v16, val_main_v15, val_main_v14, val_main_v13, val_main_v12, val_main_v11, val_main_v10, val_main_v9, val_main_v8, val_main_v7, val_main_v6, val_main_v5, val_main_v22, val_main_v28, val_main_c, val_main_c_0, val_main_c_2, val_main_c_3, val_main_c_4]
  rfl

/-- A masked score, by sequence, block, key head, group, row and column. -/
theorem v53_apply (b : Fin 8) (n : Fin 16) (g : Fin 2) (h : Fin 4) (i : Fin 128) (s : Fin 256) :
    val_main_v53 (F := Ideal) x2 x3 (ix6 b n g h i s)
      = if i.val < s.val ∧ s.val ≤ i.val + 128 ∧ (1 ≤ n.val ∨ 128 ≤ s.val) then
          (∑ d : Fin 64, val_main_v26 (F := Ideal) x3 (ix5 b n s g d) * val_main_v4 (F := Ideal) x2 (ix6 b n i g h d)) * Ideal.ofBits FTy.f32 0x3E000000#32 else ⊥ := by
  have i1 : idx_main_v52 (idx_main_call0_v1 (ix6 b n g h i s)) = ix3 n i s := by idx_ext
  have i2 : idx_main_v49 (ix6 b n g h i s) = ix6 b n g s i h := by idx_ext
  have i3 : ∀ d, lidx_main_v48 (ix6 b n g s i h) d = ix5 b n s g d := fun d => by idx_ext
  have i4 : ∀ d, ridx_main_v48 (ix6 b n g s i h) d = ix6 b n i g h d := fun d => by idx_ext
  rw [val_main_v53_apply, val_main_call0_v1_apply, val_main_v52_apply, i1, v47_apply, val_main_v51_apply, val_main_v49_apply, i2, val_main_v48_apply,
    val_main_v50_apply, val_main_cst_5_apply, val_main_call0_v2_apply, val_main_call0_v0_apply, val_main_cst_6_apply]
  simp only [i3, i4]
  split
  · rfl
  · rw [← ofBits_bot]; rfl

/-- The row's largest score. -/
theorem v56_apply (b : Fin 8) (n : Fin 16) (g : Fin 2) (h : Fin 4) (i : Fin 128) :
    val_main_v56 (F := Ideal) x2 x3 (ix5 b n g h i)
      = Finset.fold max ⊥ (fun s => val_main_v53 (F := Ideal) x2 x3 (ix6 b n g h i s)) Finset.univ := by
  rw [← ofBits_bot]
  unfold val_main_v56
  exact hostMax_r6 _ _ _ _ (by decide) b n g h i

/-- The row's largest score or its sink, whichever is larger. -/
theorem v59_apply (b : Fin 8) (n : Fin 16) (g : Fin 2) (h : Fin 4) (i : Fin 128) (z : Fin 1) :
    val_main_v59 (F := Ideal) x1 x2 x3 (ix6 b n g h i z)
      = max (Finset.fold max ⊥ (fun s => val_main_v53 (F := Ideal) x2 x3 (ix6 b n g h i s)) Finset.univ) (x1 (ix1 ⟨g.val * 4 + h.val, by omega⟩)) := by
  rw [← v56_apply]
  have i1 : idx_main_v57 (ix6 b n g h i z) = ix5 b n g h i := by idx_ext
  have i2 : idx_main_v54 (idx_main_v55 (idx_main_v58 (ix6 b n g h i z))) = ix1 ⟨g.val * 4 + h.val, by omega⟩ := by idx_ext
  rw [val_main_v59_apply, val_main_v57_apply, i1, val_main_v58_apply, val_main_v55_apply, val_main_v54_apply, i2]
  generalize val_main_v56 (F := Ideal) x2 x3 (ix5 b n g h i) = s
  rfl

/-- A row's softmax weight. -/
theorem v70_apply (b : Fin 8) (n : Fin 16) (g : Fin 2) (h : Fin 4) (i : Fin 128) (s : Fin 256) (S : Fin 256 → EReal) (k m : EReal)
    (hS : ∀ s, val_main_v53 (F := Ideal) x2 x3 (ix6 b n g h i s) = S s) (hk : x1 (ix1 ⟨g.val * 4 + h.val, by omega⟩) = k)
    (hm : m = max (Finset.fold max ⊥ S Finset.univ) k) :
    val_main_v70 (F := Ideal) x1 x2 x3 (ix6 b n g h i s)
      = Ideal.div (Ideal.exp (S s - m)) ((∑ c, Ideal.exp (S c - m)) + Ideal.exp (k - m)) := by
  have hm' : val_main_v59 (F := Ideal) x1 x2 x3 (ix6 b n g h i 0) = m := by
    rw [v59_apply, hk, hm]; simp only [hS]
  have i1 : ∀ c, idx_main_v60 (ix6 b n g h i c) = ix6 b n g h i 0 := fun c => by idx_ext
  have i2 : idx_main_v69 (ix6 b n g h i s) = ix6 b n g h i 0 := by idx_ext
  have i3 : idx_main_v64 (ix6 b n g h i (0 : Fin 1)) = ix5 b n g h i := by idx_ext
  have i4 : ∀ c, idx_main_v63 (ix5 b n g h i) c = ix6 b n g h i c := fun c => by idx_ext
  have i5 : idx_main_v54 (idx_main_v55 (idx_main_v65 (ix6 b n g h i (0 : Fin 1)))) = ix1 ⟨g.val * 4 + h.val, by omega⟩ := by idx_ext
  have e62 : ∀ c, val_main_v62 (F := Ideal) x1 x2 x3 (ix6 b n g h i c) = Ideal.exp (S c - m) := fun c => by
    rw [val_main_v62_apply, val_main_v61_apply, val_main_v60_apply, i1, hm', hS]; rfl
  rw [val_main_v70_apply, val_main_v69_apply, i2, val_main_v68_apply, val_main_v64_apply, i3, val_main_v63_apply, val_main_v67_apply, val_main_v66_apply,
    val_main_v65_apply, val_main_v55_apply, val_main_v54_apply, i5, hk, hm', e62]
  simp only [i4, e62]
  rw [show val_main_cst_8 (F := Ideal) (Shape.Idx.first h_S_) = 0 from Ideal.ofBits_zero .f32, zero_add]
  rfl

/-- The attention's output: the values weighted. -/
theorem v74_apply (b : Fin 8) (n : Fin 16) (i : Fin 128) (g : Fin 2) (h : Fin 4) (d : Fin 64) :
    val_main_v74 (F := Ideal) x1 x2 x3 x4 (ix2 ⟨b.val * 2048 + n.val * 128 + i.val, by omega⟩ ⟨(g.val * 4 + h.val) * 64 + d.val, by omega⟩)
      = ∑ s : Fin 256, val_main_v32 (F := Ideal) x4 (ix5 b n s g d) * val_main_v70 (F := Ideal) x1 x2 x3 (ix6 b n g h i s) := by
  have i1 : idx_main_v74 (ix2 ⟨b.val * 2048 + n.val * 128 + i.val, by omega⟩ ⟨(g.val * 4 + h.val) * 64 + d.val, by omega⟩)
      = ix3 b ⟨n.val * 128 + i.val, by omega⟩ ⟨(g.val * 4 + h.val) * 64 + d.val, by omega⟩ := by idx_ext
  rw [val_main_v74_apply, i1]
  unfold val_main_v73
  rw [shapeCast_apply (val_main_v72 (F := Ideal) x1 x2 x3 x4) _ _ (ix6 b n i g h d)
    (by rewrite [Shape.rowMajor_val_three, Shape.rowMajor_val_six]
        show ((((b.val * 16 + n.val) * 128 + i.val) * 2 + g.val) * 4 + h.val) * 64 + d.val = (b.val * 2048 + (n.val * 128 + i.val)) * 512 + ((g.val * 4 + h.val) * 64 + d.val)
        omega)]
  have i2 : idx_main_v72 (ix6 b n i g h d) = ix6 b n g d h i := by idx_ext
  rw [val_main_v72_apply, i2, val_main_v71_apply]
  refine Finset.sum_congr rfl fun s _ => ?_
  refine congrArg₂ (· * ·) (congrArg _ (by idx_ext)) (congrArg _ (by idx_ext))

/-- The gated mix of the two mixers' outputs. -/
theorem v96_apply (r : Fin 16384) (c : Fin 1024) :
    val_main_v96 (F := Ideal) x1 x2 x3 x4 x5 x6 x7 x8 x9 (ix2 r c)
      = Ideal.logistic (x6 (ix2 r c)) * (∑ k : Fin 512, val_main_v74 (F := Ideal) x1 x2 x3 x4 (ix2 r k) * x8 (ix2 k c))
        + Ideal.logistic (x7 (ix2 r c)) * (∑ k : Fin 512, x5 (ix2 r k) * x9 (ix2 k c)) := by
  unfold val_main_v96 val_main_v95 val_main_v94 val_main_v93 val_main_v92 val_main_v91 val_main_v90 val_main_v89 val_main_v88 val_main_v87 val_main_v86 val_main_v85 val_main_v84 val_main_v83 val_main_v82 val_main_v81 val_main_v80
  generalize val_main_v74 (F := Ideal) x1 x2 x3 x4 = s
  pointwise [val_main_v75, val_main_v76, val_main_v77, val_main_cst_9, val_main_cst_10, val_main_cst_11, val_main_cst_12]
  rfl

/-- The residual after the mix's projection. -/
theorem v98_apply (r : Fin 16384) (c : Fin 1024) :
    val_main_v98 (F := Ideal) x0 x1 x2 x3 x4 x5 x6 x7 x8 x9 x10 (ix2 r c)
      = x0 (ix2 r c) + ∑ k : Fin 1024, val_main_v96 (F := Ideal) x1 x2 x3 x4 x5 x6 x7 x8 x9 (ix2 r k) * x10 (ix2 k c) := by
  unfold val_main_v98 val_main_v97
  generalize val_main_v96 (F := Ideal) x1 x2 x3 x4 x5 x6 x7 x8 x9 = s
  pointwise [val_main_v78]

/-- The normalised residual. -/
theorem v110_apply (r : Fin 16384) (c : Fin 1024) :
    val_main_v110 (F := Ideal) x0 x1 x2 x3 x4 x5 x6 x7 x8 x9 x10 x11 (ix2 r c)
      = val_main_v98 (F := Ideal) x0 x1 x2 x3 x4 x5 x6 x7 x8 x9 x10 (ix2 r c) *
          Ideal.rsqrt (Ideal.div (∑ k, val_main_v98 (F := Ideal) x0 x1 x2 x3 x4 x5 x6 x7 x8 x9 x10 (ix2 r k) * val_main_v98 (F := Ideal) x0 x1 x2 x3 x4 x5 x6 x7 x8 x9 x10 (ix2 r k)) (Ideal.ofBits FTy.f32 0x44800000#32) + Ideal.ofBits FTy.f32 0x358637BD#32) * x11 (ix2 0 c) := by
  unfold val_main_v110 val_main_v109 val_main_v108 val_main_v107 val_main_v106 val_main_v105 val_main_v104 val_main_v103 val_main_v102 val_main_v101 val_main_v100 val_main_v99
  generalize val_main_v98 (F := Ideal) x0 x1 x2 x3 x4 x5 x6 x7 x8 x9 x10 = s
  pointwise [val_main_cst_13, val_main_cst_14, val_main_cst_15]

/-- The memory query's projection. -/
theorem v112_apply (r : Fin 16384) (c : Fin 512) :
    val_main_v112 (F := Ideal) x0 x1 x2 x3 x4 x5 x6 x7 x8 x9 x10 x11 x12 (ix2 r c)
      = ∑ k : Fin 1024, val_main_v110 (F := Ideal) x0 x1 x2 x3 x4 x5 x6 x7 x8 x9 x10 x11 (ix2 r k) * x12 (ix2 k c) := by
  unfold val_main_v112 val_main_v111
  generalize val_main_v110 (F := Ideal) x0 x1 x2 x3 x4 x5 x6 x7 x8 x9 x10 x11 = s
  pointwise [val_main_v79]

end Cert.Merge.Ref
end
-- ==== Proof.Band.lean ====
module

public import proofs.«01_k».proof.Proof.Soft
public import Idealize.ShloMosaic.Lib.Pipeline.ValueKit

@[expose] public section

set_option maxRecDepth 16384

noncomputable section

open Idealize.ShloMosaic Idealize.ShloMosaic.TcCoe Idealize.SL.Sem

namespace Cert.Band
open Cert.Soft

/-- A sum over 256 columns as the sum over the columns of each half. -/
theorem sum_halves (f : Fin 256 → EReal) :
    ∑ s, f s = ∑ c : Fin 128, (f ⟨c.val, by omega⟩ + f ⟨128 + c.val, by omega⟩) := by
  rw [Fin.sum_univ_add (a := 128) (b := 128) (f := f), ← Finset.sum_add_distrib]
  rfl

/-- The largest entry of a row or its sink, whichever is larger. -/
def top {n : ℕ} (L : Fin n → EReal) (k : EReal) : EReal := max (Finset.fold max ⊥ L Finset.univ) k

/-- The row's normaliser: the exponentials of its entries and of its sink, less the row's top. -/
def den {n : ℕ} (L : Fin n → EReal) (k : EReal) : EReal := (∑ c, Ideal.exp (L c - top L k)) + Ideal.exp (k - top L k)

/-- The exponential of minus infinity less anything is zero. -/
theorem exp_bot_sub (m : EReal) : Ideal.exp (⊥ - m) = 0 := by
  rw [EReal.bot_sub]; rfl

/-- The top of a row with a real entry, no infinite entry and no infinite sink is real. -/
theorem top_real {n : ℕ} (L : Fin n → EReal) (k : EReal) (i : Fin n) (hk : k ≠ ⊤) (hT : ∀ c, L c ≠ ⊤) (hR : IsReal (L i)) : IsReal (top L k) := by
  constructor
  · unfold top
    rw [fold_max_eq_sup]
    refine ne_of_lt (max_lt ?_ (lt_top_iff_ne_top.mpr hk))
    rw [Finset.sup_lt_iff (by exact bot_lt_top)]
    exact fun c _ => lt_top_iff_ne_top.mpr (hT c)
  · intro e
    have h1 : L i ≤ top L k := by
      unfold top
      rw [fold_max_eq_sup]
      exact le_trans (Finset.le_sup (f := L) (Finset.mem_univ i)) (le_max_left _ _)
    rw [e] at h1
    exact hR.2 (le_bot_iff.mp h1)

/-- The normaliser of such a row is not zero: the entry or sink that is the row's top contributes one. -/
theorem den_ne_zero {n : ℕ} (L : Fin n → EReal) (k : EReal) (i : Fin n) (hk : k ≠ ⊤) (hT : ∀ c, L c ≠ ⊤) (hR : IsReal (L i)) : den L k ≠ 0 := by
  have hm := top_real L k i hk hT hR
  have one : Ideal.exp (top L k - top L k) = 1 := by
    rw [EReal.sub_self hm.1 hm.2, show (0 : EReal) = ((0 : ℝ) : EReal) from rfl, Ideal.exp_coe, Real.exp_zero]; rfl
  have h1 : (1 : EReal) ≤ den L k := by
    unfold den
    by_cases h : Finset.fold max ⊥ L Finset.univ ≤ k
    · have e : top L k = k := max_eq_right h
      have := le_add_of_nonneg_left (a := Ideal.exp (k - top L k)) (Finset.sum_nonneg (s := Finset.univ) (f := fun c => Ideal.exp (L c - top L k)) fun c _ => exp_nonneg _)
      refine le_trans (le_of_eq ?_) this
      rw [e] at one ⊢
      exact one.symm
    · haveI : Nonempty (Fin n) := ⟨i⟩
      obtain ⟨j, -, hj⟩ := Finset.exists_mem_eq_sup Finset.univ Finset.univ_nonempty L
      have e : top L k = L j := by
        unfold top; rw [max_eq_left (le_of_not_ge h), fold_max_eq_sup, hj]
      have h2 := Finset.single_le_sum (f := fun c => Ideal.exp (L c - top L k)) (fun c _ => exp_nonneg _) (Finset.mem_univ j)
      refine le_trans (le_trans ?_ h2) (le_add_of_nonneg_right (exp_nonneg _))
      show 1 ≤ Ideal.exp (L j - top L k)
      rw [← e, one]
  intro e; rw [e] at h1; exact absurd h1 (by simp)

variable (S : Fin 256 → EReal) (L : Fin 128 → EReal) (i : Fin 128) (k : EReal)
  (h1 : ∀ c : Fin 128, c.val ≤ i.val → S ⟨c.val, by omega⟩ = ⊥ ∧ S ⟨128 + c.val, by omega⟩ = L c)
  (h2 : ∀ c : Fin 128, ¬ c.val ≤ i.val → S ⟨c.val, by omega⟩ = L c ∧ S ⟨128 + c.val, by omega⟩ = ⊥)
include h1 h2

/-- A row of 256 scores of which each column of one half or the other is masked has the top of the 128 that are not. -/
theorem band_top : top S k = top L k := by
  unfold top
  congr 1
  rw [fold_max_eq_sup, fold_max_eq_sup]
  apply le_antisymm
  · refine Finset.sup_le fun s _ => ?_
    by_cases hs : s.val < 128
    · by_cases hc : s.val ≤ i.val
      · rw [show s = ⟨(⟨s.val, hs⟩ : Fin 128).val, by omega⟩ from rfl, (h1 ⟨s.val, hs⟩ hc).1]; exact bot_le
      · rw [show s = ⟨(⟨s.val, hs⟩ : Fin 128).val, by omega⟩ from rfl, (h2 ⟨s.val, hs⟩ hc).1]; exact Finset.le_sup (f := L) (Finset.mem_univ _)
    · have e : s = ⟨128 + (⟨s.val - 128, by omega⟩ : Fin 128).val, by show 128 + (s.val - 128) < 256; omega⟩ := Fin.ext (by show s.val = 128 + (s.val - 128); omega)
      by_cases hc : s.val - 128 ≤ i.val
      · rw [e, (h1 ⟨s.val - 128, by omega⟩ hc).2]; exact Finset.le_sup (f := L) (Finset.mem_univ _)
      · rw [e, (h2 ⟨s.val - 128, by omega⟩ hc).2]; exact bot_le
  · refine Finset.sup_le fun c _ => ?_
    by_cases hc : c.val ≤ i.val
    · rw [← (h1 c hc).2]; exact Finset.le_sup (f := S) (Finset.mem_univ _)
    · rw [← (h2 c hc).1]; exact Finset.le_sup (f := S) (Finset.mem_univ _)

/-- … and their normaliser. -/
theorem band_den : den S k = den L k := by
  unfold den
  rw [band_top S L i k h1 h2, sum_halves]
  congr 1
  refine Finset.sum_congr rfl fun c _ => ?_
  by_cases hc : c.val ≤ i.val
  · rw [(h1 c hc).1, (h1 c hc).2, exp_bot_sub, zero_add]
  · rw [(h2 c hc).1, (h2 c hc).2, exp_bot_sub, add_zero]

/-- A sum weighted by the softmax of the 256 scores is the sum over the columns of each half's value times its weight,
    where the weights of the half that is masked are zero and the other's are the softmax of the 128. -/
theorem band_weight (hk : k ≠ ⊤) (hT : ∀ c, L c ≠ ⊤) (hR : IsReal (L i)) (s : Fin 256) :
    Ideal.div (Ideal.exp (S s - top S k)) (den S k)
      = if h : s.val < 128 then (if s.val ≤ i.val then 0 else Ideal.exp (L ⟨s.val, h⟩ - top L k) * Ideal.div 1 (den L k))
        else (if s.val - 128 ≤ i.val then Ideal.exp (L ⟨s.val - 128, by omega⟩ - top L k) * Ideal.div 1 (den L k) else 0) := by
  have hd := den_ne_zero L k i hk hT hR
  rw [band_top S L i k h1 h2, band_den S L i k h1 h2, ← Ideal.mul_one_div hd]
  split
  · rename_i hs
    split
    · rename_i hc
      rw [show s = ⟨(⟨s.val, hs⟩ : Fin 128).val, by omega⟩ from rfl, (h1 ⟨s.val, hs⟩ hc).1, exp_bot_sub, zero_mul]
    · rename_i hc
      nth_rw 1 [show s = ⟨(⟨s.val, hs⟩ : Fin 128).val, by omega⟩ from rfl]
      rw [(h2 ⟨s.val, hs⟩ hc).1]
  · rename_i hs
    have e : s = ⟨128 + (⟨s.val - 128, by omega⟩ : Fin 128).val, by show 128 + (s.val - 128) < 256; omega⟩ := Fin.ext (by show s.val = 128 + (s.val - 128); omega)
    split
    · rename_i hc
      have := (h1 ⟨s.val - 128, by omega⟩ hc).2
      rw [← e] at this; rw [this]
    · rename_i hc
      have := (h2 ⟨s.val - 128, by omega⟩ hc).2
      rw [← e] at this; rw [this, exp_bot_sub, zero_mul]

end Cert.Band
end
-- ==== Proof.MergeKer.lean ====
module

public import proofs.«01_k».proof.Proof.MergeRef
public import proofs.«01_k».proof.Proof.Band
public import proofs.«01_k».proof.Proof.Gen.KernelIdeal.Skeleton
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

namespace Cert.Merge.Ker
open Cert.KernelIdeal Cert.KernelIdeal.Gen Cert.Soft

/-- A selection on a set bit is its first operand. -/
theorem sel_one {α : Type} (a b : α) : Scalar.select 1#1 a b = a := rfl
/-- A selection on a clear bit is its second operand. -/
theorem sel_zero {α : Type} (a b : α) : Scalar.select 0#1 a b = b := rfl

/-- Whether a lane is one of the first 64. -/
theorem lane_lt (i l : Fin 128) : k0_pay12 (ix2 i l) = if l.val < 64 then 1#1 else 0#1 := by
  have e : k0_pay12 (ix2 i l) = IntOp.cmpi .slt (BitVec.ofNat 32 l.val) 64#32 := by pointwise [k0_pay12]
  rw [e]
  exact (by decide +kernel : ∀ l : Fin 128, IntOp.cmpi .slt (BitVec.ofNat 32 l.val) 64#32 = if l.val < 64 then 1#1 else 0#1) l

/-- Whether a row of the keys has a lane among the first 64. -/
theorem lane_lt' (i : Fin 640) (l : Fin 128) : k0_pay5 (ix2 i l) = if l.val < 64 then 1#1 else 0#1 := by
  have e : k0_pay5 (ix2 i l) = IntOp.cmpi .slt (BitVec.ofNat 32 l.val) 64#32 := by pointwise [k0_pay5]
  rw [e]
  exact (by decide +kernel : ∀ l : Fin 128, IntOp.cmpi .slt (BitVec.ofNat 32 l.val) 64#32 = if l.val < 64 then 1#1 else 0#1) l

/-- Whether a column is not after the row, rows counted within each group of 128. -/
theorem col_le (h : Fin 4) (i l : Fin 128) : k0_pay13 (ix2 ⟨h.val * 128 + i.val, by omega⟩ l) = if l.val ≤ i.val then 1#1 else 0#1 := by
  have e : k0_pay13 (ix2 ⟨h.val * 128 + i.val, by omega⟩ l) = IntOp.cmpi .sle (BitVec.ofNat 32 l.val) (IntOp.andi (BitVec.ofNat 32 (h.val * 128 + i.val)) 127#32) := by pointwise [k0_pay13]
  have e2 : IntOp.andi (BitVec.ofNat 32 (h.val * 128 + i.val)) 127#32 = BitVec.ofNat 32 i.val :=
    (by decide +kernel : ∀ (h : Fin 4) (i : Fin 128), IntOp.andi (BitVec.ofNat 32 (h.val * 128 + i.val)) 127#32 = BitVec.ofNat 32 i.val) h i
  rw [e, e2]
  exact (by decide +kernel : ∀ i l : Fin 128, IntOp.cmpi .sle (BitVec.ofNat 32 l.val) (BitVec.ofNat 32 i.val) = if l.val ≤ i.val then 1#1 else 0#1) i l

/-- Two heads' queries side by side, four times: each head's lanes scaled, the other's zero. -/
def qcat (A B : FVec Ideal S128x128 .bf16) : FVec Ideal S512x128 .bf16 :=
  concatenate S512x128 0
    [⟨S128x128, select k0_pay12 (mulf A (broadcast S128x128 (Scalar.ofBits (F := Ideal) .bf16 0x3E00#16))) (broadcast S128x128 (Scalar.ofBits (F := Ideal) .bf16 0x0000#16))⟩,
     ⟨S128x128, select k0_pay12 (broadcast S128x128 (Scalar.ofBits (F := Ideal) .bf16 0x0000#16)) (mulf A (broadcast S128x128 (Scalar.ofBits (F := Ideal) .bf16 0x3E00#16)))⟩,
     ⟨S128x128, select k0_pay12 (mulf B (broadcast S128x128 (Scalar.ofBits (F := Ideal) .bf16 0x3E00#16))) (broadcast S128x128 (Scalar.ofBits (F := Ideal) .bf16 0x0000#16))⟩,
     ⟨S128x128, select k0_pay12 (broadcast S128x128 (Scalar.ofBits (F := Ideal) .bf16 0x0000#16)) (mulf B (broadcast S128x128 (Scalar.ofBits (F := Ideal) .bf16 0x3E00#16)))⟩]
    concatenates_S128x128_S128x128_S128x128_S128x128_S512x128_d0

/-- The scores of the four heads of a key head: their queries against 256 keys. -/
def sc (off : ℕ) (hs : S640x128.Slices ![off, 0] S256x128) (kk : FVec Ideal S640x128 .bf16) (A B : FVec Ideal S128x128 .bf16) : FVec Ideal S512x256 .f32 :=
  matmul dot_S512x128_S256x128_S512x256_1_1_0_0_n_n none (qcat A B) (extractStridedSlice S256x128 ![off, 0] kk hs) (constant (F := Ideal) S512x256 .f32 0x00000000#32)

theorem pay22_eq (kk : FVec Ideal S640x128 .bf16) (A B : Vec Ideal S128x128 .bf16) :
    k0_pay22 (F := Ideal) kk k0_pay12 A B = sc 0 slices_S640x128_o0_0_S256x128 kk A B := rfl
theorem pay26_eq (kk : FVec Ideal S640x128 .bf16) (A B : Vec Ideal S128x128 .bf16) :
    k0_pay26 (F := Ideal) kk k0_pay12 (k0_pay24 k0_pay12 A) (k0_pay25 k0_pay12 A) B = sc 0 slices_S640x128_o0_0_S256x128 kk A B := rfl

/-- An entry of the heads' queries side by side. -/
theorem qcat_apply (A B : FVec Ideal S128x128 .bf16) (h : Fin 4) (i l : Fin 128) :
    qcat A B (ix2 ⟨h.val * 128 + i.val, by omega⟩ l)
      = if (h.val % 2 = 0 ↔ l.val < 64) then (if h.val < 2 then A else B) (ix2 i l) * Ideal.ofBits .bf16 0x3E00#16 else 0 := by
  have e := lane_lt
  have z : Ideal.ofBits .bf16 0x0000#16 = 0 := Ideal.ofBits_zero .bf16
  unfold qcat
  generalize k0_pay12 = v at e
  by_cases hl : l.val < 64 <;> fin_cases h <;> pointwise <;> simp [e, hl, z, sel_one, sel_zero]
  all_goals (repeat' split)
  all_goals first | rfl | (exfalso; omega) | exact fun _ => rfl | exact congrArg (fun x => A x * _) (by idx_ext) | exact congrArg (fun x => B x * _) (by idx_ext)

/-- A score: the query's lanes of its head, scaled, against the key's. -/
theorem sc_apply (off : ℕ) (hs : S640x128.Slices ![off, 0] S256x128) (ho : off ≤ 384) (kk : FVec Ideal S640x128 .bf16) (A B : FVec Ideal S128x128 .bf16)
    (K : Fin 640 → Fin 64 → EReal) (hK : ∀ r l, kk (ix2 r l) = K r ⟨l.val % 64, by omega⟩) (h : Fin 4) (i : Fin 128) (s : Fin 256) :
    sc off hs kk A B (ix2 ⟨h.val * 128 + i.val, by omega⟩ s)
      = ∑ d : Fin 64, ((if h.val < 2 then A else B) (ix2 i ⟨h.val % 2 * 64 + d.val, by omega⟩) * Ideal.ofBits .bf16 0x3E00#16) * K ⟨off + s.val, by omega⟩ d := by
  have e : sc off hs kk A B (ix2 ⟨h.val * 128 + i.val, by omega⟩ s) = ∑ l : Fin 128, qcat A B (ix2 ⟨h.val * 128 + i.val, by omega⟩ l) * kk (ix2 ⟨off + s.val, by omega⟩ l) := by
    unfold sc
    generalize qcat A B = Q
    pointwise
  rw [e]
  simp only [qcat_apply, hK]
  rw [Fin.sum_univ_add (a := 64) (b := 64)]
  have hz : ∀ (p : Prop) [Decidable p] (x : EReal) (y : EReal), ¬ p → (if p then x else 0) * y = 0 := fun p _ x y hp => by rw [if_neg hp, zero_mul]
  by_cases he : h.val % 2 = 0
  · rw [Finset.sum_eq_zero (s := Finset.univ) (f := fun x : Fin 64 => _ * K _ ⟨(Fin.natAdd 64 x).val % 64, _⟩) fun d _ => hz _ _ _ (by
      rw [iff_true_left he]; show ¬ (64 + d.val < 64); omega), add_zero]
    refine Finset.sum_congr rfl fun d _ => ?_
    have hd : (Fin.castAdd 64 d).val = d.val := rfl
    rw [if_pos (by rw [iff_true_left he]; exact d.isLt)]
    refine congrArg₂ (· * ·) (congrArg (fun x => (if h.val < 2 then A else B) x * _) ?_) (congrArg (K _) (Fin.ext ?_))
    · exact congrArg (ix2 i) (Fin.ext (by show d.val = h.val % 2 * 64 + d.val; omega))
    · show d.val % 64 = d.val; omega
  · rw [Finset.sum_eq_zero (s := Finset.univ) (f := fun x : Fin 64 => _ * K _ ⟨(Fin.castAdd 64 x).val % 64, _⟩) fun d _ => hz _ _ _ (by
      rw [iff_false_left he]; show ¬ ¬ (d.val < 64); omega), zero_add]
    refine Finset.sum_congr rfl fun d _ => ?_
    rw [if_pos (by rw [iff_false_left he]; show ¬ (64 + d.val < 64); omega)]
    refine congrArg₂ (· * ·) (congrArg (fun x => (if h.val < 2 then A else B) x * _) ?_) (congrArg (K _) (Fin.ext ?_))
    · exact congrArg (ix2 i) (Fin.ext (by show 64 + d.val = h.val % 2 * 64 + d.val; omega))
    · show (64 + d.val) % 64 = d.val; omega

/-- Key head 0's keys: its 64 lanes, twice. -/
theorem kk0_apply (P : Vec Ideal S128x128 .f32) (C : Vec Ideal S512x128 .f32) (r : Fin 640) (l : Fin 128) :
    k0_pay7 (F := Ideal) P C (ix2 r l)
      = if h : r.val < 128 then P (ix2 ⟨r.val, h⟩ ⟨l.val % 64, by omega⟩) else C (ix2 ⟨r.val - 128, by omega⟩ ⟨l.val % 64, by omega⟩) := by
  have e := lane_lt'
  unfold k0_pay7 k0_pay6 k0_pay3
  generalize k0_pay5 = v at e
  by_cases hl : l.val < 64 <;> pointwise <;> simp [e, hl, sel_one, sel_zero]
  all_goals (repeat' split)
  all_goals first | rfl | (exfalso; omega) | exact congrArg P (by idx_ext) | exact congrArg C (by idx_ext)

/-- Key head 1's keys: its 64 lanes, twice. -/
theorem kk1_apply (P : Vec Ideal S128x128 .f32) (C : Vec Ideal S512x128 .f32) (r : Fin 640) (l : Fin 128) :
    k0_pay8 (F := Ideal) P C (ix2 r l)
      = if h : r.val < 128 then P (ix2 ⟨r.val, h⟩ ⟨64 + l.val % 64, by omega⟩) else C (ix2 ⟨r.val - 128, by omega⟩ ⟨64 + l.val % 64, by omega⟩) := by
  have e := lane_lt'
  unfold k0_pay8 k0_pay6 k0_pay3
  generalize k0_pay5 = v at e
  by_cases hl : l.val < 64 <;> pointwise <;> simp [e, hl, sel_one, sel_zero]
  all_goals (repeat' split)
  all_goals first | rfl | (exfalso; omega) | exact congrArg P (by idx_ext) | exact congrArg C (by idx_ext)

/-- Key head 0's values: its 64 lanes, twice. -/
theorem vv0_apply (P : Vec Ideal S128x128 .f32) (C : Vec Ideal S512x128 .f32) (r : Fin 640) (l : Fin 128) :
    k0_pay10 (F := Ideal) P C (ix2 r l)
      = if h : r.val < 128 then P (ix2 ⟨r.val, h⟩ ⟨l.val % 64, by omega⟩) else C (ix2 ⟨r.val - 128, by omega⟩ ⟨l.val % 64, by omega⟩) :=
  (congrFun (show k0_pay10 (F := Ideal) P C = k0_pay7 (F := Ideal) P C from rfl) _).trans (kk0_apply P C r l)

/-- Key head 1's values: its 64 lanes, twice. -/
theorem vv1_apply (P : Vec Ideal S128x128 .f32) (C : Vec Ideal S512x128 .f32) (r : Fin 640) (l : Fin 128) :
    k0_pay11 (F := Ideal) P C (ix2 r l)
      = if h : r.val < 128 then P (ix2 ⟨r.val, h⟩ ⟨64 + l.val % 64, by omega⟩) else C (ix2 ⟨r.val - 128, by omega⟩ ⟨64 + l.val % 64, by omega⟩) :=
  (congrFun (show k0_pay11 (F := Ideal) P C = k0_pay8 (F := Ideal) P C from rfl) _).trans (kk1_apply P C r l)

/-- The scores a row does see, by column of either half: the second half's up to its own position, the first half's after. -/
def live (s : FVec Ideal S512x256 .f32) : FVec Ideal S512x128 .f32 :=
  select k0_pay13 (extractStridedSlice S512x128 ![0, 128] s slices_S512x256_o0_128_S512x128) (extractStridedSlice S512x128 ![0, 0] s slices_S512x256_o0_0_S512x128)

/-- The same in a tile's first block, the first half's scores biased. -/
def live0 (z : Ideal .f32) (s : FVec Ideal S512x256 .f32) : FVec Ideal S512x128 .f32 :=
  select k0_pay13 (extractStridedSlice S512x128 ![0, 128] s slices_S512x256_o0_128_S512x128) (addf (extractStridedSlice S512x128 ![0, 0] s slices_S512x256_o0_0_S512x128) (broadcast S512x128 z))

/-- A row's top: its largest score or its sink. -/
def tp (v : FVec Ideal S512x1 .f32) (x : FVec Ideal S512x128 .f32) : FVec Ideal S512x1 .f32 :=
  maximumf (shapeCast S512x1 (multiReduction .maximumf [1] S512 x 0xFF800000#32 reduces_S512x128_S512 (.inl rfl) rfl) shapeCasts_S512_S512x1) v

/-- The exponentials of the scores less the row's top. -/
def ex (v : FVec Ideal S512x1 .f32) (x : FVec Ideal S512x128 .f32) : FVec Ideal S512x128 .f32 :=
  exp (subf x (broadcastTo S512x128 (tp v x) broadcasts_S512x1_S512x128))

/-- The row's weights. -/
def nrm (v : FVec Ideal S512x1 .f32) (x : FVec Ideal S512x128 .f32) : FVec Ideal S512x128 .f32 :=
  mulf (ex v x) (broadcastTo S512x128 (divf (broadcast S512x1 (Scalar.ofBits (F := Ideal) .f32 0x3F800000#32))
    (addf (shapeCast S512x1 (multiReduction .add [1] S512 (ex v x) 0x00000000#32 reduces_S512x128_S512 (.inl rfl) rfl) shapeCasts_S512_S512x1)
      (exp (subf v (tp v x))))) broadcasts_S512x1_S512x128)

/-- The weights over both halves: zero where a column of a half is masked. -/
def wt (w : FVec Ideal S512x128 .f32) : FVec Ideal S512x256 .bf16 :=
  truncf .bf16 (concatenate S512x256 1 [⟨S512x128, select k0_pay13 (broadcast S512x128 (Scalar.ofBits (F := Ideal) .f32 0x00000000#32)) w⟩, ⟨S512x128, select k0_pay13 w (broadcast S512x128 (Scalar.ofBits (F := Ideal) .f32 0x00000000#32))⟩] concatenates_S512x128_S512x128_S512x256_d1) bitsLt_bf16_f32

/-- The weighted values. -/
def ot (off : ℕ) (hs : S640x128.Slices ![off, 0] S256x128) (vv : FVec Ideal S640x128 .bf16) (w : FVec Ideal S512x256 .bf16) : FVec Ideal S512x128 .f32 :=
  matmul dot_S512x256_S256x128_S512x128_1_0_0_1_n_n none w (extractStridedSlice S256x128 ![off, 0] vv hs) (constant (F := Ideal) S512x128 .f32 0x00000000#32)

/-- A live score, in any block but a tile's first. -/
theorem live_apply (s : FVec Ideal S512x256 .f32) (h : Fin 4) (i l : Fin 128) :
    live s (ix2 ⟨h.val * 128 + i.val, by omega⟩ l)
      = if l.val ≤ i.val then s (ix2 ⟨h.val * 128 + i.val, by omega⟩ ⟨128 + l.val, by omega⟩) else s (ix2 ⟨h.val * 128 + i.val, by omega⟩ ⟨l.val, by omega⟩) := by
  have e := col_le h i l
  unfold live
  generalize k0_pay13 = v at e
  by_cases hl : l.val ≤ i.val <;> pointwise <;> simp [e, hl, sel_one, sel_zero]

/-- A live score, in a tile's first block. -/
theorem live0_apply (z : Ideal .f32) (s : FVec Ideal S512x256 .f32) (h : Fin 4) (i l : Fin 128) :
    live0 z s (ix2 ⟨h.val * 128 + i.val, by omega⟩ l)
      = if l.val ≤ i.val then s (ix2 ⟨h.val * 128 + i.val, by omega⟩ ⟨128 + l.val, by omega⟩) else s (ix2 ⟨h.val * 128 + i.val, by omega⟩ ⟨l.val, by omega⟩) + (z : EReal) := by
  have e := col_le h i l
  unfold live0
  generalize k0_pay13 = v at e
  by_cases hl : l.val ≤ i.val <;> pointwise <;> simp [e, hl, sel_one, sel_zero]

/-- A row's top at its row. -/
theorem tp_apply (v : FVec Ideal S512x1 .f32) (x : FVec Ideal S512x128 .f32) (r : Fin 512) (z : Fin 1) :
    tp v x (ix2 r z) = Band.top (fun c => x (ix2 r c)) (v (ix2 r z)) := by
  unfold Band.top
  rw [← Ref.ofBits_bot]
  pointwise [tp]

/-- A row's weight at an index. -/
theorem nrm_apply (v : FVec Ideal S512x1 .f32) (x : FVec Ideal S512x128 .f32) (r : Fin 512) (l : Fin 128) :
    nrm v x (ix2 r l)
      = Ideal.exp (x (ix2 r l) - Band.top (fun c => x (ix2 r c)) (v (ix2 r 0))) * Ideal.div 1 (Band.den (fun c => x (ix2 r c)) (v (ix2 r 0))) := by
  have e := tp_apply v x r 0
  unfold Band.den
  rw [← e]
  unfold nrm ex
  generalize tp v x = t
  pointwise

/-- A weight over both halves at an index. -/
theorem wt_apply (w : FVec Ideal S512x128 .f32) (h : Fin 4) (i : Fin 128) (s : Fin 256) :
    wt w (ix2 ⟨h.val * 128 + i.val, by omega⟩ s)
      = if hs : s.val < 128 then (if s.val ≤ i.val then 0 else w (ix2 ⟨h.val * 128 + i.val, by omega⟩ ⟨s.val, hs⟩))
        else (if s.val - 128 ≤ i.val then w (ix2 ⟨h.val * 128 + i.val, by omega⟩ ⟨s.val - 128, by omega⟩) else 0) := by
  have e := col_le h i
  have z : Ideal.ofBits .f32 0x00000000#32 = 0 := Ideal.ofBits_zero .f32
  unfold wt
  generalize k0_pay13 = v at e
  pointwise
  simp only [e, z]
  repeat' split
  all_goals first | rfl | omega

/-- The weighted values at an index. -/
theorem ot_apply (off : ℕ) (hs : S640x128.Slices ![off, 0] S256x128) (ho : off ≤ 384) (vv : FVec Ideal S640x128 .bf16) (w : FVec Ideal S512x256 .bf16) (r : Fin 512) (l : Fin 128) :
    ot off hs vv w (ix2 r l) = ∑ s : Fin 256, w (ix2 r s) * vv (ix2 ⟨off + s.val, by omega⟩ l) := by
  pointwise [ot]

end Cert.Merge.Ker
end
-- ==== Proof.MergeRow.lean ====
module

public import proofs.«01_k».proof.Proof.MergeRef
public import proofs.«01_k».proof.Proof.MergeKer
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

namespace Cert.Merge.Ker
open Cert.KernelIdeal Cert.KernelIdeal.Gen Cert.Soft
open Cert.ReferenceIdeal.Read (val_main_v4 val_main_v26 val_main_v32 val_main_v53 val_main_v70 val_main_v74)

/-- The scale of the queries, an eighth. -/
theorem eighth_bf16 : Ideal.ofBits FTy.bf16 0x3E00#16 = ((1 / 8 : ℝ) : EReal) := by
  simp [Ideal.ofBits, Ideal.ieee, -EReal.coe_mul]
  norm_num

/-- The scale of the reference's scores, an eighth. -/
theorem eighth_f32 : Ideal.ofBits FTy.f32 0x3E000000#32 = ((1 / 8 : ℝ) : EReal) := by
  simp [Ideal.ofBits, Ideal.ieee, -EReal.coe_mul]
  norm_num

/-- The image of a sum of real numbers is the sum of their images. -/
theorem coe_sum {n : ℕ} (f : Fin n → ℝ) : ((∑ d, f d : ℝ) : EReal) = ∑ d, (f d : EReal) := by
  refine Finset.induction_on (Finset.univ : Finset (Fin n)) (by simp) fun a s ha ih => ?_
  rw [Finset.sum_insert ha, Finset.sum_insert ha, EReal.coe_add, ih]

/-- Scaling each factor of a real product sum scales the sum. -/
theorem scale_sum {n : ℕ} (a b : Fin n → EReal) (c : ℝ) (ha : ∀ d, IsReal (a d)) (hb : ∀ d, IsReal (b d)) :
    ∑ d, (a d * (c : EReal)) * b d = (∑ d, b d * a d) * (c : EReal) := by
  choose a' ha' using fun d => (ha d).exists_coe
  choose b' hb' using fun d => (hb d).exists_coe
  simp only [ha', hb', ← EReal.coe_mul]
  rw [← coe_sum, ← coe_sum, ← EReal.coe_mul, Finset.sum_mul]
  exact congrArg _ (Finset.sum_congr rfl fun d _ => by ring)

section Row
variable {x1 : (⟨Cert.ReferenceIdeal.S8, .f32⟩ : BufTy).Contents (Elt Ideal)} {x2 : (⟨Cert.ReferenceIdeal.S16384x512, .bf16⟩ : BufTy).Contents (Elt Ideal)} {x3 x4 : (⟨Cert.ReferenceIdeal.S16384x128, .f32⟩ : BufTy).Contents (Elt Ideal)}
variable (b : Fin 8) (T B : Fin 4) (g : Fin 2) (h : Fin 4) (i : Fin 128)

/-- The block of its sequence that block `B` of tile `T` is. -/
abbrev blkOf (T B : Fin 4) : Fin 16 := ⟨T.val * 4 + B.val, by omega⟩

/-- The keys a block's rows see, where they see them, are the staged ones. -/
theorem key_eq (K : Fin 640 → Fin 64 → EReal)
    (hK : ∀ (r : Fin 640) (d : Fin 64), 1 ≤ T.val ∨ 128 ≤ r.val → K r d = x3 (ix2 ⟨b.val * 2048 + T.val * 512 + r.val - 128, by omega⟩ ⟨g.val * 64 + d.val, by omega⟩))
    (s : Fin 256) (hs : 1 ≤ (blkOf T B).val ∨ 128 ≤ s.val) (d : Fin 64) :
    val_main_v26 (F := Ideal) x3 (ix5 b (blkOf T B) s g d) = K ⟨B.val * 128 + s.val, by omega⟩ d := by
  have hs' : 1 ≤ T.val * 4 + B.val ∨ 128 ≤ s.val := hs
  rw [hK _ _ (show 1 ≤ T.val ∨ 128 ≤ B.val * 128 + s.val by omega), Ref.v26_apply]
  split
  · rename_i h1
    rw [Ref.v25_apply, dif_neg (show ¬ T.val * 4 + B.val < 1 by omega)]
    exact congrArg x3 (by idx_ext)
  · rw [Ref.v21_apply]
    exact congrArg x3 (by idx_ext)

/-- The values a block's rows see, where they see them, are the staged ones. -/
theorem value_eq (V : Fin 640 → Fin 64 → EReal)
    (hV : ∀ (r : Fin 640) (d : Fin 64), 1 ≤ T.val ∨ 128 ≤ r.val → V r d = x4 (ix2 ⟨b.val * 2048 + T.val * 512 + r.val - 128, by omega⟩ ⟨g.val * 64 + d.val, by omega⟩))
    (s : Fin 256) (hs : 1 ≤ (blkOf T B).val ∨ 128 ≤ s.val) (d : Fin 64) :
    val_main_v32 (F := Ideal) x4 (ix5 b (blkOf T B) s g d) = V ⟨B.val * 128 + s.val, by omega⟩ d := by
  have hs' : 1 ≤ T.val * 4 + B.val ∨ 128 ≤ s.val := hs
  rw [hV _ _ (show 1 ≤ T.val ∨ 128 ≤ B.val * 128 + s.val by omega), Ref.v32_apply]
  split
  · rename_i h1
    rw [Ref.v31_apply, dif_neg (show ¬ T.val * 4 + B.val < 1 by omega)]
    exact congrArg x4 (by idx_ext)
  · rw [Ref.v27_apply]
    exact congrArg x4 (by idx_ext)

/-- A row's score against a staged key. -/
def score (x2 : (⟨Cert.ReferenceIdeal.S16384x512, .bf16⟩ : BufTy).Contents (Elt Ideal)) (K : Fin 640 → Fin 64 → EReal) (s : Fin 256) : EReal :=
  ∑ d : Fin 64, (val_main_v4 (F := Ideal) x2 (ix6 b (blkOf T B) i g h d) * Ideal.ofBits .bf16 0x3E00#16) * K ⟨B.val * 128 + s.val, by omega⟩ d

/-- Such a score is real. -/
theorem score_real (h2 : ∀ j, IsReal (x2 j)) (K : Fin 640 → Fin 64 → EReal) (hKr : ∀ r d, IsReal (K r d)) (s : Fin 256) : IsReal (score b T B g h i x2 K s) := by
  unfold score
  refine isReal_sum _ _ fun d => ?_
  rw [Ref.v4_apply, eighth_bf16]
  exact ((h2 _).mul (isReal_coe _)).mul (hKr _ _)

/-- The reference's masked scores are those of the staged keys that the row sees, and minus infinity elsewhere. -/
theorem masked_eq (h2 : ∀ j, IsReal (x2 j)) (K : Fin 640 → Fin 64 → EReal) (hKr : ∀ r d, IsReal (K r d))
    (hK : ∀ (r : Fin 640) (d : Fin 64), 1 ≤ T.val ∨ 128 ≤ r.val → K r d = x3 (ix2 ⟨b.val * 2048 + T.val * 512 + r.val - 128, by omega⟩ ⟨g.val * 64 + d.val, by omega⟩))
    (s : Fin 256) :
    val_main_v53 (F := Ideal) x2 x3 (ix6 b (blkOf T B) g h i s)
      = if i.val < s.val ∧ s.val ≤ i.val + 128 ∧ (1 ≤ (blkOf T B).val ∨ 128 ≤ s.val) then score b T B g h i x2 K s else ⊥ := by
  rw [Ref.v53_apply]
  split
  · rename_i hm
    rw [eighth_f32, score, eighth_bf16]
    simp only [key_eq b T B g K hK s hm.2.2]
    refine (scale_sum _ _ _ (fun d => ?_) (fun d => hKr _ _)).symm
    rw [Ref.v4_apply]; exact h2 _
  · rfl

/-- A row of a block's output for a head is the reference's. -/
theorem o_eq (h1 : ∀ j, x1 j ≠ (⊤ : EReal)) (h2 : ∀ j, IsReal (x2 j)) (K V : Fin 640 → Fin 64 → EReal) (hKr : ∀ r d, IsReal (K r d))
    (hK : ∀ (r : Fin 640) (d : Fin 64), 1 ≤ T.val ∨ 128 ≤ r.val → K r d = x3 (ix2 ⟨b.val * 2048 + T.val * 512 + r.val - 128, by omega⟩ ⟨g.val * 64 + d.val, by omega⟩))
    (hV : ∀ (r : Fin 640) (d : Fin 64), 1 ≤ T.val ∨ 128 ≤ r.val → V r d = x4 (ix2 ⟨b.val * 2048 + T.val * 512 + r.val - 128, by omega⟩ ⟨g.val * 64 + d.val, by omega⟩))
    (off : ℕ) (hoff : off = B.val * 128) (hs : S640x128.Slices ![off, 0] S256x128) (vv : FVec Ideal S640x128 .bf16)
    (hvv : ∀ r l, vv (ix2 r l) = V r ⟨l.val % 64, by omega⟩)
    (x : FVec Ideal S512x128 .f32) (v : FVec Ideal S512x1 .f32)
    (hx : ∀ l : Fin 128, x (ix2 ⟨h.val * 128 + i.val, by omega⟩ l) = if l.val ≤ i.val then score b T B g h i x2 K ⟨128 + l.val, by omega⟩ else if 1 ≤ (blkOf T B).val then score b T B g h i x2 K ⟨l.val, by omega⟩ else ⊥)
    (hv : v (ix2 ⟨h.val * 128 + i.val, by omega⟩ 0) = x1 (ix1 ⟨g.val * 4 + h.val, by omega⟩)) (l : Fin 128) :
    ot off hs vv (wt (nrm v x)) (ix2 ⟨h.val * 128 + i.val, by omega⟩ l)
      = val_main_v74 (F := Ideal) x1 x2 x3 x4 (ix2 ⟨b.val * 2048 + (blkOf T B).val * 128 + i.val, by omega⟩ ⟨(g.val * 4 + h.val) * 64 + l.val % 64, by omega⟩) := by
  subst hoff
  have hS := masked_eq b T B g h i h2 K hKr hK
  have hL1 : ∀ c : Fin 128, IsReal (score b T B g h i x2 K ⟨128 + c.val, by omega⟩) := fun c => score_real b T B g h i h2 K hKr _
  have hL2 : ∀ c : Fin 128, IsReal (score b T B g h i x2 K ⟨c.val, by omega⟩) := fun c => score_real b T B g h i h2 K hKr _
  have b1 : ∀ c : Fin 128, c.val ≤ i.val → val_main_v53 (F := Ideal) x2 x3 (ix6 b (blkOf T B) g h i ⟨c.val, by omega⟩) = ⊥
      ∧ val_main_v53 (F := Ideal) x2 x3 (ix6 b (blkOf T B) g h i ⟨128 + c.val, by omega⟩) = x (ix2 ⟨h.val * 128 + i.val, by omega⟩ c) := fun c hc => by
    constructor
    · rw [hS, if_neg (by intro hh; exact absurd hh.1 (show ¬ i.val < c.val by omega))]
    · rw [hS, if_pos ⟨by show i.val < 128 + c.val; omega, by show 128 + c.val ≤ i.val + 128; omega, Or.inr (by show 128 ≤ 128 + c.val; omega)⟩, hx, if_pos hc]
  have b2 : ∀ c : Fin 128, ¬ c.val ≤ i.val → val_main_v53 (F := Ideal) x2 x3 (ix6 b (blkOf T B) g h i ⟨c.val, by omega⟩) = x (ix2 ⟨h.val * 128 + i.val, by omega⟩ c)
      ∧ val_main_v53 (F := Ideal) x2 x3 (ix6 b (blkOf T B) g h i ⟨128 + c.val, by omega⟩) = ⊥ := fun c hc => by
    constructor
    · rw [hS, hx, if_neg hc]
      by_cases hn : 1 ≤ (blkOf T B).val
      · rw [if_pos hn, if_pos ⟨by show i.val < c.val; omega, by show c.val ≤ i.val + 128; omega, Or.inl hn⟩]
      · rw [if_neg hn, if_neg (by rintro ⟨-, -, h3 | h3⟩; exact hn h3; exact absurd h3 (show ¬ 128 ≤ c.val by omega))]
    · rw [hS, if_neg (by rintro ⟨-, h3, -⟩; exact absurd h3 (show ¬ 128 + c.val ≤ i.val + 128 by omega))]
  have hT : ∀ c : Fin 128, x (ix2 ⟨h.val * 128 + i.val, by omega⟩ c) ≠ (⊤ : EReal) := fun c => by
    rw [hx]
    split
    · exact (hL1 c).1
    · split
      · exact (hL2 c).1
      · exact bot_ne_top
  have hR : IsReal (x (ix2 ⟨h.val * 128 + i.val, by omega⟩ i)) := by
    rw [hx, if_pos (le_refl _)]; exact hL1 i
  rw [ot_apply _ _ (by omega), Ref.v74_apply x1 x2 x3 x4 b (blkOf T B) i g h ⟨l.val % 64, by omega⟩]
  refine Finset.sum_congr rfl fun s _ => ?_
  have hw := Band.band_weight (fun s => val_main_v53 (F := Ideal) x2 x3 (ix6 b (blkOf T B) g h i s)) (fun c => x (ix2 ⟨h.val * 128 + i.val, by omega⟩ c)) i
    (x1 (ix1 ⟨g.val * 4 + h.val, by omega⟩)) b1 b2 (h1 _) hT hR s
  have h70 := Ref.v70_apply x1 x2 x3 b (blkOf T B) g h i s _ _ _ (fun s => rfl) rfl rfl
  have hW : val_main_v70 (F := Ideal) x1 x2 x3 (ix6 b (blkOf T B) g h i s) = wt (nrm v x) (ix2 ⟨h.val * 128 + i.val, by omega⟩ s) := by
    rw [wt_apply]
    simp only [nrm_apply, hv]
    exact h70.trans hw
  rw [← hW, hvv]
  by_cases hn : 1 ≤ (blkOf T B).val ∨ 128 ≤ s.val
  · rw [value_eq b T B g V hV s hn, mul_comm]
  · have hz : val_main_v70 (F := Ideal) x1 x2 x3 (ix6 b (blkOf T B) g h i s) = 0 := by
      have hd := Band.den_ne_zero (fun c => x (ix2 ⟨h.val * 128 + i.val, by omega⟩ c)) (x1 (ix1 ⟨g.val * 4 + h.val, by omega⟩)) i (h1 _) hT hR
      rw [← Band.band_den (fun s => val_main_v53 (F := Ideal) x2 x3 (ix6 b (blkOf T B) g h i s)) _ i _ b1 b2] at hd
      refine h70.trans ?_
      rw [hS s, if_neg (by rintro ⟨-, -, h3⟩; exact hn h3), Band.exp_bot_sub]
      refine (Ideal.mul_one_div hd (x := 0)).symm.trans (zero_mul _)
    rw [hz, zero_mul, mul_zero]

end Row
end Cert.Merge.Ker
end
-- ==== Proof.MergeMix.lean ====
module

public import proofs.«01_k».proof.Proof.MergeRow
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

namespace Cert.Merge.Ker
open Cert.KernelIdeal Cert.KernelIdeal.Gen Cert.Soft

/-- The rows' numbers. -/
abbrev rowNo : IVec S512x1 32 := iota .tc S512x1 32 [0] iota_S512x1_d0_w32

/-- Which of the four heads a row belongs to. -/
theorem head_apply (h : Fin 4) (i : Fin 128) (z : Fin 1) :
    k0_pay17 rowNo 128#32 k0_pay15 k0_pay16 (ix2 ⟨h.val * 128 + i.val, by omega⟩ z) = BitVec.ofNat 32 h.val := by
  pointwise [k0_pay17, k0_pay15, k0_pay16, rowNo]
  revert h i
  decide +kernel

/-- The sinks of four heads, one for each row. -/
abbrev snk (a0 a1 a2 a3 : Elt Ideal .f32) : FVec Ideal S512x1 .f32 := k0_pay18 (F := Ideal) rowNo 128#32 k0_pay15 k0_pay16 a0 a1 a2 a3

/-- A row's sink is its head's. -/
theorem snk_apply (a : Fin 4 → Elt Ideal .f32) (h : Fin 4) (i : Fin 128) (z : Fin 1) :
    snk (a 0) (a 1) (a 2) (a 3) (ix2 ⟨h.val * 128 + i.val, by omega⟩ z) = a h := by
  have e := head_apply h i z
  unfold snk k0_pay18
  generalize k0_pay17 rowNo 128#32 k0_pay15 k0_pay16 = v at e
  pointwise
  rw [e]
  fin_cases h <;> rfl

/-- The second key head's sinks are written in pieces. -/
theorem pay21_eq (a0 a1 a2 a3 : Elt Ideal .f32) :
    k0_pay21 (F := Ideal) (k0_pay17 rowNo 128#32 k0_pay15 k0_pay16) (k0_pay19 (F := Ideal) rowNo 128#32 k0_pay15 k0_pay16 a0) k0_pay20 a1 a2 a3 = snk a0 a1 a2 a3 := rfl

/-- Two heads' outputs side by side: the first two of four. -/
def seg0 (o : FVec Ideal S512x128 .f32) : FVec Ideal S128x128 .bf16 :=
  truncf .bf16 (select k0_pay12 (extractStridedSlice S128x128 ![0, 0] o slices_S512x128_o0_0_S128x128) (extractStridedSlice S128x128 ![128, 0] o slices_S512x128_o128_0_S128x128)) bitsLt_bf16_f32

/-- Two heads' outputs side by side: the last two of four. -/
def seg1 (o : FVec Ideal S512x128 .f32) : FVec Ideal S128x128 .bf16 :=
  truncf .bf16 (select k0_pay12 (extractStridedSlice S128x128 ![256, 0] o slices_S512x128_o256_0_S128x128) (extractStridedSlice S128x128 ![384, 0] o slices_S512x128_o384_0_S128x128)) bitsLt_bf16_f32

/-- A block's rows: the eight heads' outputs side by side. -/
def blkRow (o0 o1 : FVec Ideal S512x128 .f32) : FVec Ideal S128x512 .bf16 :=
  concatenate S128x512 1 [⟨S128x128, seg0 o0⟩, ⟨S128x128, seg1 o0⟩, ⟨S128x128, seg0 o1⟩, ⟨S128x128, seg1 o1⟩] concatenates_S128x128_S128x128_S128x128_S128x128_S128x512_d1

/-- A tile's rows: its four blocks'. -/
def tileRows (r0 r1 r2 r3 : FVec Ideal S128x512 .bf16) : FVec Ideal S512x512 .bf16 :=
  concatenate S512x512 0 [⟨S128x512, r0⟩, ⟨S128x512, r1⟩, ⟨S128x512, r2⟩, ⟨S128x512, r3⟩] concatenates_S128x512_S128x512_S128x512_S128x512_S512x512_d0

/-- The gated mix. -/
def mixed (ya : FVec Ideal S512x512 .bf16) (wa : FVec Ideal S512x1024 .bf16) (ga gb : FVec Ideal S512x1024 .f32) : FVec Ideal S512x1024 .bf16 :=
  truncf .bf16 (addf (mulf ga (matmul dot_S512x512_S512x1024_S512x1024_1_0_0_1_n_n none ya wa (constant (F := Ideal) S512x1024 .f32 0x00000000#32))) gb) bitsLt_bf16_f32

/-- The mix as printed is the gated mix of the blocks' outputs. -/
theorem pay80_eq (ga gb : FVec Ideal S512x1024 .f32) (wa : Vec Ideal S512x1024 .bf16) (o00 o01 o10 o11 o20 o21 o30 o31 : FVec Ideal S512x128 .f32) :
    k0_pay80 (F := Ideal) k0_pay12 ga o10 o11 o20 o21 o30 o31 gb (seg0 o00) (seg1 o00) (seg0 o01) (seg1 o01) (seg0 o10) wa = mixed (tileRows (blkRow o00 o01) (blkRow o10 o11) (blkRow o20 o21) (blkRow o30 o31)) wa ga gb := rfl

/-- A segment's entry: lane by lane, the output of the head the lane belongs to. -/
theorem seg0_apply (o : FVec Ideal S512x128 .f32) (i l : Fin 128) :
    seg0 o (ix2 i l) = if l.val < 64 then o (ix2 ⟨0 + i.val, by omega⟩ l) else o (ix2 ⟨128 + i.val, by omega⟩ l) := by
  have e := lane_lt i l
  unfold seg0
  generalize k0_pay12 = v at e
  by_cases hl : l.val < 64 <;> pointwise <;> simp [e, hl, sel_one, sel_zero]

theorem seg1_apply (o : FVec Ideal S512x128 .f32) (i l : Fin 128) :
    seg1 o (ix2 i l) = if l.val < 64 then o (ix2 ⟨256 + i.val, by omega⟩ l) else o (ix2 ⟨384 + i.val, by omega⟩ l) := by
  have e := lane_lt i l
  unfold seg1
  generalize k0_pay12 = v at e
  by_cases hl : l.val < 64 <;> pointwise <;> simp [e, hl, sel_one, sel_zero]

/-- A block's row: each head's output at its 64 lanes. -/
theorem blkRow_apply (o : Fin 2 → FVec Ideal S512x128 .f32) (y : Fin 8 → Fin 128 → Fin 64 → EReal)
    (hy : ∀ (g : Fin 2) (h : Fin 4) (i l : Fin 128), o g (ix2 ⟨h.val * 128 + i.val, by omega⟩ l) = y ⟨g.val * 4 + h.val, by omega⟩ i ⟨l.val % 64, by omega⟩)
    (i : Fin 128) (c : Fin 512) :
    blkRow (o 0) (o 1) (ix2 i c) = y ⟨c.val / 64, by omega⟩ i ⟨c.val % 64, by omega⟩ := by
  have e0 := fun i l => seg0_apply (o 0) i l
  have e1 := fun i l => seg1_apply (o 0) i l
  have e2 := fun i l => seg0_apply (o 1) i l
  have e3 := fun i l => seg1_apply (o 1) i l
  unfold blkRow
  generalize seg0 (o 0) = s0 at e0
  generalize seg1 (o 0) = s1 at e1
  generalize seg0 (o 1) = s2 at e2
  generalize seg1 (o 1) = s3 at e3
  pointwise
  simp only [e0, e1, e2, e3]
  have H := fun (g : Fin 2) (h : Fin 4) (r : Fin 512) (l : Fin 128) (q : Fin 8) (d : Fin 64) (hr : r.val = h.val * 128 + i.val) (hq : q.val = g.val * 4 + h.val) (hd : d.val = l.val % 64) =>
    ((congrArg (fun r => o g (ix2 r l)) (show r = ⟨h.val * 128 + i.val, by omega⟩ from Fin.ext hr)).trans (hy g h i l)).trans
      (congrArg₂ (fun q d => y q i d) (Fin.ext hq.symm) (Fin.ext hd.symm))
  repeat' split
  · exact H 0 0 _ _ _ _ (by simp) (by simp <;> omega) (by simp <;> omega)
  · exact H 0 1 _ _ _ _ (by simp) (by simp <;> omega) (by simp <;> omega)
  · exact H 0 2 _ _ _ _ (by simp) (by simp <;> omega) (by simp <;> omega)
  · exact H 0 3 _ _ _ _ (by simp) (by simp <;> omega) (by simp <;> omega)
  · exact H 1 0 _ _ _ _ (by simp) (by simp <;> omega) (by simp <;> omega)
  · exact H 1 1 _ _ _ _ (by simp) (by simp <;> omega) (by simp <;> omega)
  · exact H 1 2 _ _ _ _ (by simp) (by simp <;> omega) (by simp <;> omega)
  · exact H 1 3 _ _ _ _ (by simp) (by simp <;> omega) (by simp <;> omega)

/-- A tile's row is its block's. -/
theorem tileRows_apply (r : Fin 4 → FVec Ideal S128x512 .bf16) (B : Fin 4) (i : Fin 128) (c : Fin 512) :
    tileRows (r 0) (r 1) (r 2) (r 3) (ix2 ⟨B.val * 128 + i.val, by omega⟩ c) = r B (ix2 i c) := by
  have H := fun (B' : Fin 4) (j : Fin 128) (hB : B' = B) (hj : j = i) => (congrArg₂ (fun B i => r B (ix2 i c)) hB hj)
  unfold tileRows
  pointwise
  repeat' split
  all_goals first | exact H ⟨0, by decide⟩ _ (Fin.ext (by (try dsimp only); omega)) (Fin.ext (by (try dsimp only); omega)) | exact H ⟨1, by decide⟩ _ (Fin.ext (by (try dsimp only); omega)) (Fin.ext (by (try dsimp only); omega)) | exact H ⟨2, by decide⟩ _ (Fin.ext (by (try dsimp only); omega)) (Fin.ext (by (try dsimp only); omega)) | exact H ⟨3, by decide⟩ _ (Fin.ext (by (try dsimp only); omega)) (Fin.ext (by (try dsimp only); omega))

/-- The mix at an index. -/
theorem mixed_apply (ya : FVec Ideal S512x512 .bf16) (wa : FVec Ideal S512x1024 .bf16) (yb : Vec Ideal S512x512 .bf16) (wb : Vec Ideal S512x1024 .bf16) (ga gb : Vec Ideal S512x1024 .f32) (r : Fin 512) (c : Fin 1024) :
    mixed ya wa (k0_pay65 (F := Ideal) ga) (k0_pay74 (F := Ideal) (k0_pay43 (F := Ideal) yb wb) gb) (ix2 r c)
      = Ideal.logistic (ga (ix2 r c)) * (∑ k : Fin 512, ya (ix2 r k) * wa (ix2 k c)) + Ideal.logistic (gb (ix2 r c)) * (∑ k : Fin 512, yb (ix2 r k) * wb (ix2 k c)) := by
  pointwise [mixed, k0_pay65, k0_pay74, k0_pay43]

/-- The residual at an index. -/
theorem pay1_apply (x : Vec Ideal S512x1024 .f32) (mx : FVec Ideal S512x1024 .bf16) (wo : Vec Ideal S1024x1024 .bf16) (r : Fin 512) (c : Fin 1024) :
    k0_pay1 (F := Ideal) x mx wo (ix2 r c) = x (ix2 r c) + ∑ k : Fin 1024, mx (ix2 r k) * wo (ix2 k c) := by
  pointwise [k0_pay1]

/-- The memory query at an index. -/
theorem pay2_apply (x : Vec Ideal S512x1024 .f32) (mx : FVec Ideal S512x1024 .bf16) (wo : Vec Ideal S1024x1024 .bf16) (g : Vec Ideal S1x1024 .f32) (wq : Vec Ideal S1024x512 .bf16) (r : Fin 512) (c : Fin 512) :
    k0_pay2 (F := Ideal) x mx wo g wq (ix2 r c)
      = ∑ k : Fin 1024, (k0_pay1 (F := Ideal) x mx wo (ix2 r k) *
          Ideal.rsqrt (Ideal.div (∑ k, k0_pay1 (F := Ideal) x mx wo (ix2 r k) * k0_pay1 (F := Ideal) x mx wo (ix2 r k)) (Ideal.ofBits FTy.f32 0x44800000#32) + Ideal.ofBits FTy.f32 0x358637BD#32) * g (ix2 0 k)) * wq (ix2 k c) := by
  unfold k0_pay2
  generalize k0_pay1 (F := Ideal) x mx wo = s
  pointwise

end Cert.Merge.Ker
end
-- ==== Proof.MergeTile.lean ====
module

public import proofs.«01_k».proof.Proof.MergeMix
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

namespace Cert.Merge.Ker
open Cert.KernelIdeal Cert.KernelIdeal.Gen Cert.Soft
open Cert.ReferenceIdeal.Read (val_main_v4 val_main_v74)

section Forms
variable (kk vv : FVec Ideal S640x128 .bf16) (A B : Vec Ideal S128x128 .bf16) (z : Ideal .f32) (v : FVec Ideal S512x1 .f32) (s : FVec Ideal S512x256 .f32) (w : FVec Ideal S512x256 .bf16)

/-! The blocks are printed one by one; each printed piece is one of the pieces above. -/

theorem pay27_eq : k0_pay27 (F := Ideal) kk k0_pay12 A B = sc 128 slices_S640x128_o128_0_S256x128 kk A B := rfl
theorem pay32_eq : k0_pay32 (F := Ideal) kk k0_pay12 (k0_pay29 k0_pay12 A) (k0_pay30 k0_pay12 A) B k0_pay31 = sc 128 slices_S640x128_o128_0_S256x128 kk A B := rfl
theorem pay33_eq : k0_pay33 (F := Ideal) kk k0_pay12 A B = sc 256 slices_S640x128_o256_0_S256x128 kk A B := rfl
theorem pay39_eq : k0_pay39 (F := Ideal) kk k0_pay12 (k0_pay35 k0_pay12 A) (k0_pay36 k0_pay12 A) (k0_pay37 B) (k0_pay38 k0_pay12 B) = sc 256 slices_S640x128_o256_0_S256x128 kk A B := rfl
theorem pay40_eq : k0_pay40 (F := Ideal) kk k0_pay12 A B = sc 384 slices_S640x128_o384_0_S256x128 kk A B := rfl
theorem pay42_eq : k0_pay42 (F := Ideal) kk (k0_pay41 k0_pay12 A B) = sc 384 slices_S640x128_o384_0_S256x128 kk A B := rfl

theorem pay44_eq : k0_pay44 (F := Ideal) k0_pay13 z v s = wt (nrm v (live0 z s)) := rfl
theorem pay49_eq : k0_pay49 (F := Ideal) k0_pay13 (k0_pay47 k0_pay13 z v s) (k0_pay48 k0_pay13 z v s) = wt (nrm v (live0 z s)) := rfl
theorem pay50_eq : k0_pay50 (F := Ideal) k0_pay13 v s = wt (nrm v (live s)) := rfl
theorem pay56_eq : k0_pay56 (F := Ideal) k0_pay13 (k0_pay53 k0_pay13 v s) (k0_pay54 k0_pay13 v s) k0_pay55 = wt (nrm v (live s)) := rfl
theorem pay57_eq : k0_pay57 (F := Ideal) k0_pay13 v s = wt (nrm v (live s)) := rfl
theorem pay62_eq : k0_pay62 (F := Ideal) k0_pay13 (k0_pay60 k0_pay13 v s) (k0_pay61 k0_pay13 v s) = wt (nrm v (live s)) := rfl
theorem pay63_eq : k0_pay63 (F := Ideal) k0_pay13 v s = wt (nrm v (live s)) := rfl
theorem pay64_eq : k0_pay64 (F := Ideal) k0_pay13 v s = nrm v (live s) := rfl

theorem pay68_eq : k0_pay68 (F := Ideal) vv w = ot 128 slices_S640x128_o128_0_S256x128 vv w := rfl
theorem pay69_eq : k0_pay69 (F := Ideal) vv w = ot 128 slices_S640x128_o128_0_S256x128 vv w := rfl
theorem pay70_eq : k0_pay70 (F := Ideal) vv w = ot 256 slices_S640x128_o256_0_S256x128 vv w := rfl
theorem pay71_eq : k0_pay71 (F := Ideal) vv w = ot 256 slices_S640x128_o256_0_S256x128 vv w := rfl
theorem pay72_eq : k0_pay72 (F := Ideal) vv w = ot 384 slices_S640x128_o384_0_S256x128 vv w := rfl
theorem pay73_eq (x : FVec Ideal S512x128 .f32) : k0_pay73 (F := Ideal) vv k0_pay13 x (Scalar.ofBits .f32 0x00000000#32) = ot 384 slices_S640x128_o384_0_S256x128 vv (wt x) := rfl
theorem pay75_eq : k0_pay75 (F := Ideal) vv k0_pay12 w = seg0 (ot 0 slices_S640x128_o0_0_S256x128 vv w) := rfl
theorem pay76_eq : k0_pay76 (F := Ideal) vv k0_pay12 w = seg1 (ot 0 slices_S640x128_o0_0_S256x128 vv w) := rfl
theorem pay77_eq : k0_pay77 (F := Ideal) vv k0_pay12 w = seg0 (ot 0 slices_S640x128_o0_0_S256x128 vv w) := rfl
theorem pay78_eq : k0_pay78 (F := Ideal) vv k0_pay12 w = seg1 (ot 0 slices_S640x128_o0_0_S256x128 vv w) := rfl
theorem pay79_eq : k0_pay79 (F := Ideal) vv k0_pay12 w = seg0 (ot 128 slices_S640x128_o128_0_S256x128 vv w) := rfl

/-- A block's outputs for a key head, in any block but a tile's first. -/
def hd (off : ℕ) (hs : S640x128.Slices ![off, 0] S256x128) : FVec Ideal S512x128 .f32 := ot off hs vv (wt (nrm v (live (sc off hs kk A B))))

/-- A tile's first block's outputs for a key head. -/
def hd0 : FVec Ideal S512x128 .f32 := ot 0 slices_S640x128_o0_0_S256x128 vv (wt (nrm v (live0 z (sc 0 slices_S640x128_o0_0_S256x128 kk A B))))

end Forms

section Heads
variable {x1 : (⟨Cert.ReferenceIdeal.S8, .f32⟩ : BufTy).Contents (Elt Ideal)} {x2 : (⟨Cert.ReferenceIdeal.S16384x512, .bf16⟩ : BufTy).Contents (Elt Ideal)} {x3 x4 : (⟨Cert.ReferenceIdeal.S16384x128, .f32⟩ : BufTy).Contents (Elt Ideal)}
variable (b : Fin 8) (T B : Fin 4) (g : Fin 2)

/-- A printed score is the row's score against the staged key. -/
theorem sc_score (K : Fin 640 → Fin 64 → EReal) (off : ℕ) (hoff : off = B.val * 128) (hs : S640x128.Slices ![off, 0] S256x128) (kk : FVec Ideal S640x128 .bf16)
    (hkk : ∀ r l, kk (ix2 r l) = K r ⟨l.val % 64, by omega⟩) (A : Fin 2 → FVec Ideal S128x128 .bf16)
    (hA : ∀ (s : Fin 2) (i l : Fin 128), A s (ix2 i l) = x2 (ix2 ⟨b.val * 2048 + T.val * 512 + B.val * 128 + i.val, by omega⟩ ⟨(g.val * 2 + s.val) * 128 + l.val, by omega⟩))
    (h : Fin 4) (i : Fin 128) (s : Fin 256) :
    sc off hs kk (A 0) (A 1) (ix2 ⟨h.val * 128 + i.val, by omega⟩ s) = score b T B g h i x2 K s := by
  subst hoff
  rw [sc_apply _ _ (by omega) kk (A 0) (A 1) K hkk h i s]
  unfold score
  refine Finset.sum_congr rfl fun d _ => ?_
  refine congrArg₂ (· * ·) (congrArg (· * _) ?_) rfl
  rw [Ref.v4_apply]
  by_cases hh : h.val < 2
  · rw [if_pos hh, hA 0]
    exact congrArg x2 (congrArg₂ ix2 (Fin.ext (by show b.val * 2048 + T.val * 512 + B.val * 128 + i.val = b.val * 2048 + (T.val * 4 + B.val) * 128 + i.val; omega)) (Fin.ext (by show (g.val * 2 + 0) * 128 + (h.val % 2 * 64 + d.val) = (g.val * 4 + h.val) * 64 + d.val; omega)))
  · rw [if_neg hh, hA 1]
    exact congrArg x2 (congrArg₂ ix2 (Fin.ext (by show b.val * 2048 + T.val * 512 + B.val * 128 + i.val = b.val * 2048 + (T.val * 4 + B.val) * 128 + i.val; omega)) (Fin.ext (by show (g.val * 2 + 1) * 128 + (h.val % 2 * 64 + d.val) = (g.val * 4 + h.val) * 64 + d.val; omega)))

/-- A block's outputs are the reference's, in any block but a tile's first. -/
theorem hd_eq (hB : 1 ≤ B.val) (h1 : ∀ j, x1 j ≠ (⊤ : EReal)) (h2 : ∀ j, IsReal (x2 j)) (K V : Fin 640 → Fin 64 → EReal) (hKr : ∀ r d, IsReal (K r d))
    (hK : ∀ (r : Fin 640) (d : Fin 64), 1 ≤ T.val ∨ 128 ≤ r.val → K r d = x3 (ix2 ⟨b.val * 2048 + T.val * 512 + r.val - 128, by omega⟩ ⟨g.val * 64 + d.val, by omega⟩))
    (hV : ∀ (r : Fin 640) (d : Fin 64), 1 ≤ T.val ∨ 128 ≤ r.val → V r d = x4 (ix2 ⟨b.val * 2048 + T.val * 512 + r.val - 128, by omega⟩ ⟨g.val * 64 + d.val, by omega⟩))
    (off : ℕ) (hoff : off = B.val * 128) (hs : S640x128.Slices ![off, 0] S256x128) (kk vv : FVec Ideal S640x128 .bf16)
    (hkk : ∀ r l, kk (ix2 r l) = K r ⟨l.val % 64, by omega⟩) (hvv : ∀ r l, vv (ix2 r l) = V r ⟨l.val % 64, by omega⟩)
    (A : Fin 2 → FVec Ideal S128x128 .bf16)
    (hA : ∀ (s : Fin 2) (i l : Fin 128), A s (ix2 i l) = x2 (ix2 ⟨b.val * 2048 + T.val * 512 + B.val * 128 + i.val, by omega⟩ ⟨(g.val * 2 + s.val) * 128 + l.val, by omega⟩))
    (v : FVec Ideal S512x1 .f32) (hv : ∀ (h : Fin 4) (i : Fin 128), v (ix2 ⟨h.val * 128 + i.val, by omega⟩ 0) = x1 (ix1 ⟨g.val * 4 + h.val, by omega⟩))
    (h : Fin 4) (i l : Fin 128) :
    hd kk vv (A 0) (A 1) v off hs (ix2 ⟨h.val * 128 + i.val, by omega⟩ l)
      = val_main_v74 (F := Ideal) x1 x2 x3 x4 (ix2 ⟨b.val * 2048 + (blkOf T B).val * 128 + i.val, by omega⟩ ⟨(g.val * 4 + h.val) * 64 + l.val % 64, by omega⟩) := by
  refine o_eq b T B g h i h1 h2 K V hKr hK hV off hoff hs vv hvv _ v (fun l => ?_) (hv h i) l
  rw [live_apply, sc_score b T B g K off hoff hs kk hkk A hA, sc_score b T B g K off hoff hs kk hkk A hA,
    if_pos (show 1 ≤ (blkOf T B).val by show 1 ≤ T.val * 4 + B.val; omega)]

/-- A tile's first block's outputs are the reference's. -/
theorem hd0_eq (hB : B.val = 0) (h1 : ∀ j, x1 j ≠ (⊤ : EReal)) (h2 : ∀ j, IsReal (x2 j)) (K V : Fin 640 → Fin 64 → EReal) (hKr : ∀ r d, IsReal (K r d))
    (hK : ∀ (r : Fin 640) (d : Fin 64), 1 ≤ T.val ∨ 128 ≤ r.val → K r d = x3 (ix2 ⟨b.val * 2048 + T.val * 512 + r.val - 128, by omega⟩ ⟨g.val * 64 + d.val, by omega⟩))
    (hV : ∀ (r : Fin 640) (d : Fin 64), 1 ≤ T.val ∨ 128 ≤ r.val → V r d = x4 (ix2 ⟨b.val * 2048 + T.val * 512 + r.val - 128, by omega⟩ ⟨g.val * 64 + d.val, by omega⟩))
    (kk vv : FVec Ideal S640x128 .bf16)
    (hkk : ∀ r l, kk (ix2 r l) = K r ⟨l.val % 64, by omega⟩) (hvv : ∀ r l, vv (ix2 r l) = V r ⟨l.val % 64, by omega⟩)
    (A : Fin 2 → FVec Ideal S128x128 .bf16)
    (hA : ∀ (s : Fin 2) (i l : Fin 128), A s (ix2 i l) = x2 (ix2 ⟨b.val * 2048 + T.val * 512 + B.val * 128 + i.val, by omega⟩ ⟨(g.val * 2 + s.val) * 128 + l.val, by omega⟩))
    (z : Ideal .f32) (hz : z = if T.val = 0 then (⊥ : EReal) else 0)
    (v : FVec Ideal S512x1 .f32) (hv : ∀ (h : Fin 4) (i : Fin 128), v (ix2 ⟨h.val * 128 + i.val, by omega⟩ 0) = x1 (ix1 ⟨g.val * 4 + h.val, by omega⟩))
    (h : Fin 4) (i l : Fin 128) :
    hd0 kk vv (A 0) (A 1) z v (ix2 ⟨h.val * 128 + i.val, by omega⟩ l)
      = val_main_v74 (F := Ideal) x1 x2 x3 x4 (ix2 ⟨b.val * 2048 + (blkOf T B).val * 128 + i.val, by omega⟩ ⟨(g.val * 4 + h.val) * 64 + l.val % 64, by omega⟩) := by
  have hoff : 0 = B.val * 128 := by omega
  refine o_eq b T B g h i h1 h2 K V hKr hK hV 0 hoff _ vv hvv _ v (fun l => ?_) (hv h i) l
  rw [live0_apply, sc_score b T B g K 0 hoff _ kk hkk A hA, sc_score b T B g K 0 hoff _ kk hkk A hA, hz]
  by_cases hT : T.val = 0
  · rw [if_pos hT, if_neg (show ¬ 1 ≤ (blkOf T B).val by show ¬ 1 ≤ T.val * 4 + B.val; omega), EReal.add_bot]
  · rw [if_neg hT, if_pos (show 1 ≤ (blkOf T B).val by show 1 ≤ T.val * 4 + B.val; omega), add_zero]

/-- A block's row is the reference's. -/
theorem row_eq (o : Fin 2 → FVec Ideal S512x128 .f32)
    (ho : ∀ (g : Fin 2) (h : Fin 4) (i l : Fin 128), o g (ix2 ⟨h.val * 128 + i.val, by omega⟩ l)
      = val_main_v74 (F := Ideal) x1 x2 x3 x4 (ix2 ⟨b.val * 2048 + (blkOf T B).val * 128 + i.val, by omega⟩ ⟨(g.val * 4 + h.val) * 64 + l.val % 64, by omega⟩))
    (i : Fin 128) (c : Fin 512) :
    blkRow (o 0) (o 1) (ix2 i c) = val_main_v74 (F := Ideal) x1 x2 x3 x4 (ix2 ⟨b.val * 2048 + (blkOf T B).val * 128 + i.val, by omega⟩ c) := by
  refine (blkRow_apply o (fun q i d => val_main_v74 (F := Ideal) x1 x2 x3 x4 (ix2 ⟨b.val * 2048 + (blkOf T B).val * 128 + i.val, by omega⟩ ⟨q.val * 64 + d.val, by omega⟩)) (fun g h i l => ho g h i l) i c).trans ?_
  exact congrArg _ (congrArg (ix2 _) (Fin.ext (by show c.val / 64 * 64 + c.val % 64 = c.val; omega)))

end Heads

/-- A tile's attention outputs from its staged keys and values, queries and sinks. -/
def tileOut (kk vv : Fin 2 → FVec Ideal S640x128 .bf16) (Q : Fin 4 → Fin 4 → FVec Ideal S128x128 .bf16) (a : Fin 8 → Elt Ideal .f32) (z : Ideal .f32) : FVec Ideal S512x512 .bf16 :=
  tileRows
    (blkRow (hd0 (kk 0) (vv 0) (Q 0 0) (Q 0 1) z (snk (a 0) (a 1) (a 2) (a 3))) (hd0 (kk 1) (vv 1) (Q 0 2) (Q 0 3) z (snk (a 4) (a 5) (a 6) (a 7))))
    (blkRow (hd (kk 0) (vv 0) (Q 1 0) (Q 1 1) (snk (a 0) (a 1) (a 2) (a 3)) 128 slices_S640x128_o128_0_S256x128) (hd (kk 1) (vv 1) (Q 1 2) (Q 1 3) (snk (a 4) (a 5) (a 6) (a 7)) 128 slices_S640x128_o128_0_S256x128))
    (blkRow (hd (kk 0) (vv 0) (Q 2 0) (Q 2 1) (snk (a 0) (a 1) (a 2) (a 3)) 256 slices_S640x128_o256_0_S256x128) (hd (kk 1) (vv 1) (Q 2 2) (Q 2 3) (snk (a 4) (a 5) (a 6) (a 7)) 256 slices_S640x128_o256_0_S256x128))
    (blkRow (hd (kk 0) (vv 0) (Q 3 0) (Q 3 1) (snk (a 0) (a 1) (a 2) (a 3)) 384 slices_S640x128_o384_0_S256x128) (hd (kk 1) (vv 1) (Q 3 2) (Q 3 3) (snk (a 4) (a 5) (a 6) (a 7)) 384 slices_S640x128_o384_0_S256x128))

section Tile
variable {x1 : (⟨Cert.ReferenceIdeal.S8, .f32⟩ : BufTy).Contents (Elt Ideal)} {x2 : (⟨Cert.ReferenceIdeal.S16384x512, .bf16⟩ : BufTy).Contents (Elt Ideal)} {x3 x4 : (⟨Cert.ReferenceIdeal.S16384x128, .f32⟩ : BufTy).Contents (Elt Ideal)}
variable (b : Fin 8) (T : Fin 4)

/-- A tile's attention outputs are the reference's. -/
theorem tileOut_eq (h1 : ∀ j, x1 j ≠ (⊤ : EReal)) (h2 : ∀ j, IsReal (x2 j)) (K V : Fin 2 → Fin 640 → Fin 64 → EReal) (hKr : ∀ g r d, IsReal (K g r d))
    (hK : ∀ (g : Fin 2) (r : Fin 640) (d : Fin 64), 1 ≤ T.val ∨ 128 ≤ r.val → K g r d = x3 (ix2 ⟨b.val * 2048 + T.val * 512 + r.val - 128, by omega⟩ ⟨g.val * 64 + d.val, by omega⟩))
    (hV : ∀ (g : Fin 2) (r : Fin 640) (d : Fin 64), 1 ≤ T.val ∨ 128 ≤ r.val → V g r d = x4 (ix2 ⟨b.val * 2048 + T.val * 512 + r.val - 128, by omega⟩ ⟨g.val * 64 + d.val, by omega⟩))
    (kk vv : Fin 2 → FVec Ideal S640x128 .bf16)
    (hkk : ∀ g r l, kk g (ix2 r l) = K g r ⟨l.val % 64, by omega⟩) (hvv : ∀ g r l, vv g (ix2 r l) = V g r ⟨l.val % 64, by omega⟩)
    (Q : Fin 4 → Fin 4 → FVec Ideal S128x128 .bf16)
    (hQ : ∀ (B s : Fin 4) (i l : Fin 128), Q B s (ix2 i l) = x2 (ix2 ⟨b.val * 2048 + T.val * 512 + B.val * 128 + i.val, by omega⟩ ⟨s.val * 128 + l.val, by omega⟩))
    (a : Fin 8 → Elt Ideal .f32) (ha : ∀ j, a j = x1 (ix1 j)) (z : Ideal .f32) (hz : z = if T.val = 0 then (⊥ : EReal) else 0)
    (r : Fin 512) (c : Fin 512) :
    tileOut kk vv Q a z (ix2 r c) = val_main_v74 (F := Ideal) x1 x2 x3 x4 (ix2 ⟨b.val * 2048 + T.val * 512 + r.val, by omega⟩ c) := by
  have v0 : ∀ (h : Fin 4) (i : Fin 128), snk (a 0) (a 1) (a 2) (a 3) (ix2 ⟨h.val * 128 + i.val, by omega⟩ 0) = x1 (ix1 ⟨(0 : Fin 2).val * 4 + h.val, by omega⟩) := fun h i => by
    refine (snk_apply (fun h => a ⟨h.val, by omega⟩) h i 0).trans ((ha _).trans (congrArg x1 (congrArg ix1 (Fin.ext ?_))))
    show h.val = 0 * 4 + h.val; omega
  have v1 : ∀ (h : Fin 4) (i : Fin 128), snk (a 4) (a 5) (a 6) (a 7) (ix2 ⟨h.val * 128 + i.val, by omega⟩ 0) = x1 (ix1 ⟨(1 : Fin 2).val * 4 + h.val, by omega⟩) := fun h i => by
    refine (snk_apply (fun h => a ⟨4 + h.val, by omega⟩) h i 0).trans ((ha _).trans (congrArg x1 (congrArg ix1 (Fin.ext ?_))))
    show 4 + h.val = 1 * 4 + h.val; omega
  have hA : ∀ (B : Fin 4) (g : Fin 2) (s : Fin 2) (i l : Fin 128), Q B ⟨g.val * 2 + s.val, by omega⟩ (ix2 i l) = x2 (ix2 ⟨b.val * 2048 + T.val * 512 + B.val * 128 + i.val, by omega⟩ ⟨(g.val * 2 + s.val) * 128 + l.val, by omega⟩) := fun B g s i l => hQ B _ i l
  have r0 := row_eq (x1 := x1) (x2 := x2) (x3 := x3) (x4 := x4) b T 0 ![(hd0 (kk 0) (vv 0) (Q 0 0) (Q 0 1) z (snk (a 0) (a 1) (a 2) (a 3))), (hd0 (kk 1) (vv 1) (Q 0 2) (Q 0 3) z (snk (a 4) (a 5) (a 6) (a 7)))] (Fin.forall_fin_two.2 ⟨fun h i l => hd0_eq b T 0 0 rfl h1 h2 (K 0) (V 0) (hKr 0) (hK 0) (hV 0) (kk 0) (vv 0) (hkk 0) (hvv 0) (fun s => Q 0 ⟨(0 : Fin 2).val * 2 + s.val, by omega⟩) (hA 0 0) z hz _ v0 h i l, fun h i l => hd0_eq b T 0 1 rfl h1 h2 (K 1) (V 1) (hKr 1) (hK 1) (hV 1) (kk 1) (vv 1) (hkk 1) (hvv 1) (fun s => Q 0 ⟨(1 : Fin 2).val * 2 + s.val, by omega⟩) (hA 0 1) z hz _ v1 h i l⟩)
  have r1 := row_eq (x1 := x1) (x2 := x2) (x3 := x3) (x4 := x4) b T 1 ![(hd (kk 0) (vv 0) (Q 1 0) (Q 1 1) (snk (a 0) (a 1) (a 2) (a 3)) 128 slices_S640x128_o128_0_S256x128), (hd (kk 1) (vv 1) (Q 1 2) (Q 1 3) (snk (a 4) (a 5) (a 6) (a 7)) 128 slices_S640x128_o128_0_S256x128)] (Fin.forall_fin_two.2 ⟨fun h i l => hd_eq b T 1 0 (by decide) h1 h2 (K 0) (V 0) (hKr 0) (hK 0) (hV 0) 128 rfl _ (kk 0) (vv 0) (hkk 0) (hvv 0) (fun s => Q 1 ⟨(0 : Fin 2).val * 2 + s.val, by omega⟩) (hA 1 0) _ v0 h i l, fun h i l => hd_eq b T 1 1 (by decide) h1 h2 (K 1) (V 1) (hKr 1) (hK 1) (hV 1) 128 rfl _ (kk 1) (vv 1) (hkk 1) (hvv 1) (fun s => Q 1 ⟨(1 : Fin 2).val * 2 + s.val, by omega⟩) (hA 1 1) _ v1 h i l⟩)
  have r2 := row_eq (x1 := x1) (x2 := x2) (x3 := x3) (x4 := x4) b T 2 ![(hd (kk 0) (vv 0) (Q 2 0) (Q 2 1) (snk (a 0) (a 1) (a 2) (a 3)) 256 slices_S640x128_o256_0_S256x128), (hd (kk 1) (vv 1) (Q 2 2) (Q 2 3) (snk (a 4) (a 5) (a 6) (a 7)) 256 slices_S640x128_o256_0_S256x128)] (Fin.forall_fin_two.2 ⟨fun h i l => hd_eq b T 2 0 (by decide) h1 h2 (K 0) (V 0) (hKr 0) (hK 0) (hV 0) 256 rfl _ (kk 0) (vv 0) (hkk 0) (hvv 0) (fun s => Q 2 ⟨(0 : Fin 2).val * 2 + s.val, by omega⟩) (hA 2 0) _ v0 h i l, fun h i l => hd_eq b T 2 1 (by decide) h1 h2 (K 1) (V 1) (hKr 1) (hK 1) (hV 1) 256 rfl _ (kk 1) (vv 1) (hkk 1) (hvv 1) (fun s => Q 2 ⟨(1 : Fin 2).val * 2 + s.val, by omega⟩) (hA 2 1) _ v1 h i l⟩)
  have r3 := row_eq (x1 := x1) (x2 := x2) (x3 := x3) (x4 := x4) b T 3 ![(hd (kk 0) (vv 0) (Q 3 0) (Q 3 1) (snk (a 0) (a 1) (a 2) (a 3)) 384 slices_S640x128_o384_0_S256x128), (hd (kk 1) (vv 1) (Q 3 2) (Q 3 3) (snk (a 4) (a 5) (a 6) (a 7)) 384 slices_S640x128_o384_0_S256x128)] (Fin.forall_fin_two.2 ⟨fun h i l => hd_eq b T 3 0 (by decide) h1 h2 (K 0) (V 0) (hKr 0) (hK 0) (hV 0) 384 rfl _ (kk 0) (vv 0) (hkk 0) (hvv 0) (fun s => Q 3 ⟨(0 : Fin 2).val * 2 + s.val, by omega⟩) (hA 3 0) _ v0 h i l, fun h i l => hd_eq b T 3 1 (by decide) h1 h2 (K 1) (V 1) (hKr 1) (hK 1) (hV 1) 384 rfl _ (kk 1) (vv 1) (hkk 1) (hvv 1) (fun s => Q 3 ⟨(1 : Fin 2).val * 2 + s.val, by omega⟩) (hA 3 1) _ v1 h i l⟩)
  have hr : r = ⟨(⟨r.val / 128, by omega⟩ : Fin 4).val * 128 + (⟨r.val % 128, by omega⟩ : Fin 128).val, by omega⟩ := Fin.ext (by show r.val = r.val / 128 * 128 + r.val % 128; omega)
  have key : ∀ (B : Fin 4) (i : Fin 128), tileOut kk vv Q a z (ix2 ⟨B.val * 128 + i.val, by omega⟩ c) = val_main_v74 (F := Ideal) x1 x2 x3 x4 (ix2 ⟨b.val * 2048 + (blkOf T B).val * 128 + i.val, by omega⟩ c) := fun B i => by
    refine (tileRows_apply ![blkRow (hd0 (kk 0) (vv 0) (Q 0 0) (Q 0 1) z (snk (a 0) (a 1) (a 2) (a 3))) (hd0 (kk 1) (vv 1) (Q 0 2) (Q 0 3) z (snk (a 4) (a 5) (a 6) (a 7))), blkRow (hd (kk 0) (vv 0) (Q 1 0) (Q 1 1) (snk (a 0) (a 1) (a 2) (a 3)) 128 slices_S640x128_o128_0_S256x128) (hd (kk 1) (vv 1) (Q 1 2) (Q 1 3) (snk (a 4) (a 5) (a 6) (a 7)) 128 slices_S640x128_o128_0_S256x128), blkRow (hd (kk 0) (vv 0) (Q 2 0) (Q 2 1) (snk (a 0) (a 1) (a 2) (a 3)) 256 slices_S640x128_o256_0_S256x128) (hd (kk 1) (vv 1) (Q 2 2) (Q 2 3) (snk (a 4) (a 5) (a 6) (a 7)) 256 slices_S640x128_o256_0_S256x128), blkRow (hd (kk 0) (vv 0) (Q 3 0) (Q 3 1) (snk (a 0) (a 1) (a 2) (a 3)) 384 slices_S640x128_o384_0_S256x128) (hd (kk 1) (vv 1) (Q 3 2) (Q 3 3) (snk (a 4) (a 5) (a 6) (a 7)) 384 slices_S640x128_o384_0_S256x128)] B i c).trans ?_
    match B with
    | 0 => exact r0 i c
    | 1 => exact r1 i c
    | 2 => exact r2 i c
    | 3 => exact r3 i c
  rw [hr]
  refine (key _ _).trans (congrArg _ (congrArg₂ ix2 (Fin.ext ?_) rfl))
  show b.val * 2048 + (T.val * 4 + r.val / 128) * 128 + r.val % 128 = b.val * 2048 + T.val * 512 + (r.val / 128 * 128 + r.val % 128)
  omega

end Tile

end Cert.Merge.Ker
end
-- ==== Proof.MergeBlk.lean ====
module

public import proofs.«01_k».proof.Proof.MergeTile
public import proofs.«01_k».proof.Proof.Gen.KernelIdeal.Frame
public import proofs.«01_k».proof.Proof.Gen.KernelIdeal.Value
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Merge.Val
open Cert.KernelIdeal Cert.KernelIdeal.Gen Cert.Soft Cert.Merge.Ker

variable (m : (ℓ : Loc nD τ sig) → Buf (Elt Ideal) ℓ)

/-- Where each window's block sits at a point, in closed form: the sequence is the point's number over four, the tile its remainder. -/
theorem idx : ∀ t : Fin grid0.N,
    win0_0.index t = ![t.val, 0] ∧ win0_1.index t = ![0] ∧ win0_2.index t = ![t.val, 0] ∧ win0_3.index t = ![t.val * 4 - 1, 0]
    ∧ win0_4.index t = ![t.val, 0] ∧ win0_5.index t = ![t.val * 4 - 1, 0] ∧ win0_6.index t = ![t.val, 0] ∧ win0_7.index t = ![t.val, 0] ∧ win0_8.index t = ![t.val, 0]
    ∧ win0_9.index t = ![t.val, 0] ∧ win0_10.index t = ![0, 0] ∧ win0_11.index t = ![0, 0] ∧ win0_12.index t = ![0, 0] ∧ win0_13.index t = ![0, 0] ∧ win0_14.index t = ![0, 0]
    ∧ win0_15.index t = ![t.val, 0] ∧ win0_16.index t = ![t.val, 0] := by
  decide +kernel

variable (c : Dev nD) (t : Fin cfg0.N) (b : Fin 8) (T : Fin 4) (ht : t.val = b.val * 4 + T.val)
include ht

/-- Window 0's block holds the stream's rows of the point's tile. -/
theorem blk0 (r : Fin 512) (k : Fin 1024) :
    iblk m c 0 t (ix2 r k) = m ((c.tc : Thread nD τ).loc main_arg0) (ix2 ⟨b.val * 2048 + T.val * 512 + r.val, by omega⟩ k) := by
  blk_ext [iblk, V, idx t]

/-- Window 2's block holds the queries's rows of the point's tile. -/
theorem blk2 (r : Fin 512) (k : Fin 512) :
    iblk m c 2 t (ix2 r k) = m ((c.tc : Thread nD τ).loc main_arg2) (ix2 ⟨b.val * 2048 + T.val * 512 + r.val, by omega⟩ k) := by
  blk_ext [iblk, V, idx t]

/-- Window 4's block holds the keys's rows of the point's tile. -/
theorem blk4 (r : Fin 512) (k : Fin 128) :
    iblk m c 4 t (ix2 r k) = m ((c.tc : Thread nD τ).loc main_arg3) (ix2 ⟨b.val * 2048 + T.val * 512 + r.val, by omega⟩ k) := by
  blk_ext [iblk, V, idx t]

/-- Window 6's block holds the values's rows of the point's tile. -/
theorem blk6 (r : Fin 512) (k : Fin 128) :
    iblk m c 6 t (ix2 r k) = m ((c.tc : Thread nD τ).loc main_arg4) (ix2 ⟨b.val * 2048 + T.val * 512 + r.val, by omega⟩ k) := by
  blk_ext [iblk, V, idx t]

/-- Window 7's block holds the state layer's output's rows of the point's tile. -/
theorem blk7 (r : Fin 512) (k : Fin 512) :
    iblk m c 7 t (ix2 r k) = m ((c.tc : Thread nD τ).loc main_arg5) (ix2 ⟨b.val * 2048 + T.val * 512 + r.val, by omega⟩ k) := by
  blk_ext [iblk, V, idx t]

/-- Window 8's block holds the first gate's rows of the point's tile. -/
theorem blk8 (r : Fin 512) (k : Fin 1024) :
    iblk m c 8 t (ix2 r k) = m ((c.tc : Thread nD τ).loc main_arg6) (ix2 ⟨b.val * 2048 + T.val * 512 + r.val, by omega⟩ k) := by
  blk_ext [iblk, V, idx t]

/-- Window 9's block holds the second gate's rows of the point's tile. -/
theorem blk9 (r : Fin 512) (k : Fin 1024) :
    iblk m c 9 t (ix2 r k) = m ((c.tc : Thread nD τ).loc main_arg7) (ix2 ⟨b.val * 2048 + T.val * 512 + r.val, by omega⟩ k) := by
  blk_ext [iblk, V, idx t]

/-- Window 3's block holds the 128 rows of keys before the tile's, in any tile but a sequence's first. -/
theorem blk3 (hT : 1 ≤ T.val) (r : Fin 128) (k : Fin 128) :
    iblk m c 3 t (ix2 r k) = m ((c.tc : Thread nD τ).loc main_arg3) (ix2 ⟨b.val * 2048 + T.val * 512 + r.val - 128, by omega⟩ k) := by
  blk_ext [iblk, V, idx t]

/-- Window 5's block holds the 128 rows of values before the tile's, in any tile but a sequence's first. -/
theorem blk5 (hT : 1 ≤ T.val) (r : Fin 128) (k : Fin 128) :
    iblk m c 5 t (ix2 r k) = m ((c.tc : Thread nD τ).loc main_arg4) (ix2 ⟨b.val * 2048 + T.val * 512 + r.val - 128, by omega⟩ k) := by
  blk_ext [iblk, V, idx t]

omit ht in
/-- Window 3's block holds some rows of the keys, whatever the tile. -/
theorem blk3_some (j : S128x128.Idx) : ∃ i, (iblk m c 3 t j : EReal) = m ((c.tc : Thread nD τ).loc main_arg3) i := ⟨_, rfl⟩

omit ht in
/-- Window 1's block is the sinks. -/
theorem blk1 : iblk m c 1 t = m ((c.tc : Thread nD τ).loc main_arg1) := by
  funext j
  blk_ext [iblk, V, idx t]

omit ht in
/-- Window 10's block is the attention's output projection. -/
theorem blk10 : iblk m c 10 t = m ((c.tc : Thread nD τ).loc main_arg8) := by
  funext j
  blk_ext [iblk, V, idx t]

omit ht in
/-- Window 11's block is the state layer's output projection. -/
theorem blk11 : iblk m c 11 t = m ((c.tc : Thread nD τ).loc main_arg9) := by
  funext j
  blk_ext [iblk, V, idx t]

omit ht in
/-- Window 12's block is the mix's projection. -/
theorem blk12 : iblk m c 12 t = m ((c.tc : Thread nD τ).loc main_arg10) := by
  funext j
  blk_ext [iblk, V, idx t]

omit ht in
/-- Window 13's block is the norm's weight. -/
theorem blk13 : iblk m c 13 t = m ((c.tc : Thread nD τ).loc main_arg11) := by
  funext j
  blk_ext [iblk, V, idx t]

omit ht in
/-- Window 14's block is the memory query's projection. -/
theorem blk14 : iblk m c 14 t = m ((c.tc : Thread nD τ).loc main_arg12) := by
  funext j
  blk_ext [iblk, V, idx t]

/-- The bias on the rows before a sequence's first is minus infinity there and zero elsewhere. -/
theorem bias : k0_pay14 (F := Ideal) (grid0.coords t) = if T.val = 0 then (⊥ : EReal) else 0 := by
  have e : (grid0.coords t 1).val = T.val := by
    have h := (by decide +kernel : ∀ t : Fin grid0.N, (grid0.coords t 1).val = t.val % 4) t
    omega
  unfold k0_pay14
  simp only [e]
  rw [← Ref.ofBits_bot, ← Ideal.ofBits_zero .f32]
  fin_cases T <;> rfl

end Cert.Merge.Val
end
-- ==== Proof.MergeForm.lean ====
module

public import proofs.«01_k».proof.Proof.MergeBlk
public import proofs.«01_k».proof.Proof.MergeTile
public import proofs.«01_k».proof.Proof.Gen.KernelIdeal.Frame
public import proofs.«01_k».proof.Proof.Gen.KernelIdeal.Value
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Merge.Val
open Cert.KernelIdeal Cert.KernelIdeal.Gen Cert.Soft Cert.Merge.Ker
open Cert.ReferenceIdeal.Read (val_main_v74 val_main_v96 val_main_v98 val_main_v110 val_main_v112)

variable (m : (ℓ : Loc nD τ sig) → Buf (Elt Ideal) ℓ)
variable (c : Dev nD) (t : Fin cfg0.N)

/-- A one-element shape has an element. -/
theorem one_pos : 0 < (⟨1, ![1]⟩ : Shape).numel := by decide

/-- A tile's queries, by block and pair of heads. -/
def QQ : Fin 4 → Fin 4 → FVec Ideal S128x128 .bf16 := ![![View.ld (Val := Elt Ideal) (e' := .bf16) (iblk m c 2 t) (Rect.unit (s := S512x512) ![0, 0] ![128, 128] inb_S512x512_S128x128_0_0), View.ld (Val := Elt Ideal) (e' := .bf16) (iblk m c 2 t) (Rect.unit (s := S512x512) ![0, 128] ![128, 128] inb_S512x512_S128x128_0_128), View.ld (Val := Elt Ideal) (e' := .bf16) (iblk m c 2 t) (Rect.unit (s := S512x512) ![0, 256] ![128, 128] inb_S512x512_S128x128_0_256), View.ld (Val := Elt Ideal) (e' := .bf16) (iblk m c 2 t) (Rect.unit (s := S512x512) ![0, 384] ![128, 128] inb_S512x512_S128x128_0_384)], ![View.ld (Val := Elt Ideal) (e' := .bf16) (iblk m c 2 t) (Rect.unit (s := S512x512) ![128, 0] ![128, 128] inb_S512x512_S128x128_128_0), View.ld (Val := Elt Ideal) (e' := .bf16) (iblk m c 2 t) (Rect.unit (s := S512x512) ![128, 128] ![128, 128] inb_S512x512_S128x128_128_128), View.ld (Val := Elt Ideal) (e' := .bf16) (iblk m c 2 t) (Rect.unit (s := S512x512) ![128, 256] ![128, 128] inb_S512x512_S128x128_128_256), View.ld (Val := Elt Ideal) (e' := .bf16) (iblk m c 2 t) (Rect.unit (s := S512x512) ![128, 384] ![128, 128] inb_S512x512_S128x128_128_384)], ![View.ld (Val := Elt Ideal) (e' := .bf16) (iblk m c 2 t) (Rect.unit (s := S512x512) ![256, 0] ![128, 128] inb_S512x512_S128x128_256_0), View.ld (Val := Elt Ideal) (e' := .bf16) (iblk m c 2 t) (Rect.unit (s := S512x512) ![256, 128] ![128, 128] inb_S512x512_S128x128_256_128), View.ld (Val := Elt Ideal) (e' := .bf16) (iblk m c 2 t) (Rect.unit (s := S512x512) ![256, 256] ![128, 128] inb_S512x512_S128x128_256_256), View.ld (Val := Elt Ideal) (e' := .bf16) (iblk m c 2 t) (Rect.unit (s := S512x512) ![256, 384] ![128, 128] inb_S512x512_S128x128_256_384)], ![View.ld (Val := Elt Ideal) (e' := .bf16) (iblk m c 2 t) (Rect.unit (s := S512x512) ![384, 0] ![128, 128] inb_S512x512_S128x128_384_0), View.ld (Val := Elt Ideal) (e' := .bf16) (iblk m c 2 t) (Rect.unit (s := S512x512) ![384, 128] ![128, 128] inb_S512x512_S128x128_384_128), View.ld (Val := Elt Ideal) (e' := .bf16) (iblk m c 2 t) (Rect.unit (s := S512x512) ![384, 256] ![128, 128] inb_S512x512_S128x128_384_256), View.ld (Val := Elt Ideal) (e' := .bf16) (iblk m c 2 t) (Rect.unit (s := S512x512) ![384, 384] ![128, 128] inb_S512x512_S128x128_384_384)]]

/-- The sinks as a tile reads them. -/
def AA : Fin 8 → Elt Ideal .f32 := ![View.ld (Val := Elt Ideal) (e' := .f32) (iblk m c 1 t) (Rect.unit (s := S8) ![0] ![1] inb_S8_S1_0) (Shape.Idx.first one_pos), View.ld (Val := Elt Ideal) (e' := .f32) (iblk m c 1 t) (Rect.unit (s := S8) ![1] ![1] inb_S8_S1_1) (Shape.Idx.first one_pos), View.ld (Val := Elt Ideal) (e' := .f32) (iblk m c 1 t) (Rect.unit (s := S8) ![2] ![1] inb_S8_S1_2) (Shape.Idx.first one_pos), View.ld (Val := Elt Ideal) (e' := .f32) (iblk m c 1 t) (Rect.unit (s := S8) ![3] ![1] inb_S8_S1_3) (Shape.Idx.first one_pos), View.ld (Val := Elt Ideal) (e' := .f32) (iblk m c 1 t) (Rect.unit (s := S8) ![4] ![1] inb_S8_S1_4) (Shape.Idx.first one_pos), View.ld (Val := Elt Ideal) (e' := .f32) (iblk m c 1 t) (Rect.unit (s := S8) ![5] ![1] inb_S8_S1_5) (Shape.Idx.first one_pos), View.ld (Val := Elt Ideal) (e' := .f32) (iblk m c 1 t) (Rect.unit (s := S8) ![6] ![1] inb_S8_S1_6) (Shape.Idx.first one_pos), View.ld (Val := Elt Ideal) (e' := .f32) (iblk m c 1 t) (Rect.unit (s := S8) ![7] ![1] inb_S8_S1_7) (Shape.Idx.first one_pos)]

/-- A tile's staged keys, by key head. -/
def KK : Fin 2 → FVec Ideal S640x128 .bf16 := ![k0_pay7 (F := Ideal) (iblk m c 3 t) (iblk m c 4 t), k0_pay8 (F := Ideal) (iblk m c 3 t) (iblk m c 4 t)]

/-- A tile's staged values, by key head. -/
def VV : Fin 2 → FVec Ideal S640x128 .bf16 := ![k0_pay10 (F := Ideal) (iblk m c 5 t) (iblk m c 6 t), k0_pay11 (F := Ideal) (iblk m c 5 t) (iblk m c 6 t)]

/-- A tile's attention outputs at a point. -/
def YA : FVec Ideal S512x512 .bf16 := tileOut (KK m c t) (VV m c t) (QQ m c t) (AA m c t) (k0_pay14 (F := Ideal) (grid0.coords t))

/-- A tile's gated mix at a point. -/
def MX : FVec Ideal S512x1024 .bf16 :=
  mixed (YA m c t) (iblk m c 10 t) (k0_pay65 (F := Ideal) (iblk m c 8 t)) (k0_pay74 (F := Ideal) (k0_pay43 (F := Ideal) (iblk m c 7 t) (iblk m c 11 t)) (iblk m c 9 t))

set_option maxHeartbeats 1600000 in
/-- What a point writes to the residual stream. -/
theorem out15_form (r : Fin 512) (k : Fin 1024) : (outsAt0 (F := Ideal) m c t).1 (ix2 r k) = k0_pay1 (F := Ideal) (iblk m c 0 t) (MX m c t) (iblk m c 12 t) (ix2 r k) := by
  unfold outsAt0
  frame_out
  simp only [pay22_eq, pay26_eq, pay27_eq, pay32_eq, pay33_eq, pay39_eq, pay40_eq, pay42_eq, pay44_eq, pay49_eq, pay50_eq, pay56_eq, pay57_eq, pay62_eq, pay63_eq, pay64_eq, pay68_eq, pay69_eq, pay70_eq, pay71_eq, pay72_eq, pay73_eq, pay75_eq, pay76_eq, pay77_eq, pay78_eq, pay79_eq, pay21_eq]
  rw [pay80_eq]
  refine congrFun (congrArg (fun x => k0_pay1 (F := Ideal) (iblk m c 0 t) x (iblk m c 12 t)) ?_) (ix2 r k)
  refine congrArg (fun y => mixed y _ _ _) ?_
  unfold YA tileOut
  refine congr (congr (congr (congrArg tileRows ?_) ?_) ?_) ?_ <;> refine congrArg₂ blkRow ?_ ?_ <;> rfl

set_option maxHeartbeats 1600000 in
/-- What a point writes to the memory queries. -/
theorem out16_form (r : Fin 512) (k : Fin 512) : (outsAt0 (F := Ideal) m c t).2 (ix2 r k) = k0_pay2 (F := Ideal) (iblk m c 0 t) (MX m c t) (iblk m c 12 t) (iblk m c 13 t) (iblk m c 14 t) (ix2 r k) := by
  unfold outsAt0
  frame_out
  simp only [pay22_eq, pay26_eq, pay27_eq, pay32_eq, pay33_eq, pay39_eq, pay40_eq, pay42_eq, pay44_eq, pay49_eq, pay50_eq, pay56_eq, pay57_eq, pay62_eq, pay63_eq, pay64_eq, pay68_eq, pay69_eq, pay70_eq, pay71_eq, pay72_eq, pay73_eq, pay75_eq, pay76_eq, pay77_eq, pay78_eq, pay79_eq, pay21_eq]
  rw [pay80_eq]
  refine congrFun (congrArg (fun x => k0_pay2 (F := Ideal) (iblk m c 0 t) x (iblk m c 12 t) (iblk m c 13 t) (iblk m c 14 t)) ?_) (ix2 r k)
  refine congrArg (fun y => mixed y _ _ _) ?_
  unfold YA tileOut
  refine congr (congr (congr (congrArg tileRows ?_) ?_) ?_) ?_ <;> refine congrArg₂ blkRow ?_ ?_ <;> rfl

end Cert.Merge.Val
end
-- ==== Proof.MergeVal.lean ====
module

public import proofs.«01_k».proof.Proof.MergeForm
public import proofs.«01_k».proof.Proof.Gen.KernelIdeal.Frame
public import proofs.«01_k».proof.Proof.Gen.KernelIdeal.Value
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Merge.Val
open Cert.KernelIdeal Cert.KernelIdeal.Gen Cert.Soft Cert.Merge.Ker
open Cert.ReferenceIdeal.Read (val_main_v74 val_main_v96 val_main_v98 val_main_v110 val_main_v112)

section Point
variable (m : (ℓ : Loc nD τ sig) → Buf (Elt Ideal) ℓ)
variable (c : Dev nD) (t : Fin cfg0.N)

/-- A block of the queries read from the staged tile. -/
theorem qld (o0 o1 : ℕ) (h0 : o0 ≤ 384) (h1 : o1 ≤ 384) (X : Vec Ideal S512x512 .bf16) (hi : ∀ a, ![o0, o1] a + ![128, 128] a ≤ S512x512.size a) (i l : Fin 128) :
    View.ld (Val := Elt Ideal) (e' := .bf16) X (Rect.unit (s := S512x512) ![o0, o1] ![128, 128] hi) (ix2 i l) = X (ix2 ⟨o0 + i.val, by omega⟩ ⟨o1 + l.val, by omega⟩) := by
  pointwise

/-- A sink read from the staged ones. -/
theorem ald (o : ℕ) (h0 : o < 8) (X : Vec Ideal S8 .f32) (hi : ∀ a, ![o] a + ![1] a ≤ S8.size a) (hp : 0 < (⟨1, ![1]⟩ : Shape).numel) :
    View.ld (Val := Elt Ideal) (e' := .f32) X (Rect.unit (s := S8) ![o] ![1] hi) (Shape.Idx.first hp) = X (ix1 ⟨o, h0⟩) := by
  have e : Shape.Idx.first hp = ix1 (0 : Fin 1) := by idx_ext
  rw [e]
  pointwise

/-- The sinks a tile reads are the array's. -/
theorem sinks (j : Fin 8) : AA m c t j = (m ((c.tc : Thread nD τ).loc main_arg1)) (ix1 j) := by
  have e : ∀ (o : ℕ) (h0 : o < 8) (hi : ∀ a, ![o] a + ![1] a ≤ S8.size a) (hp : 0 < (⟨1, ![1]⟩ : Shape).numel),
      View.ld (Val := Elt Ideal) (e' := .f32) (iblk m c 1 t) (Rect.unit (s := S8) ![o] ![1] hi) (Shape.Idx.first hp) = (m ((c.tc : Thread nD τ).loc main_arg1)) (ix1 ⟨o, h0⟩) := fun o h0 hi hp => by
    rw [ald o h0 _ hi hp, blk1]
  match j with
  | 0 => exact e 0 (by decide) _ _
  | 1 => exact e 1 (by decide) _ _
  | 2 => exact e 2 (by decide) _ _
  | 3 => exact e 3 (by decide) _ _
  | 4 => exact e 4 (by decide) _ _
  | 5 => exact e 5 (by decide) _ _
  | 6 => exact e 6 (by decide) _ _
  | 7 => exact e 7 (by decide) _ _

/-- A tile's queries are the array's rows. -/
theorem queries (b : Fin 8) (T : Fin 4) (ht : t.val = b.val * 4 + T.val) (B s : Fin 4) (i l : Fin 128) :
    QQ m c t B s (ix2 i l) = (m ((c.tc : Thread nD τ).loc main_arg2)) (ix2 ⟨b.val * 2048 + T.val * 512 + B.val * 128 + i.val, by omega⟩ ⟨s.val * 128 + l.val, by omega⟩) := by
  have e : ∀ (o0 o1 : ℕ) (h0 : o0 ≤ 384) (h1 : o1 ≤ 384) (hi : ∀ a, ![o0, o1] a + ![128, 128] a ≤ S512x512.size a),
      View.ld (Val := Elt Ideal) (e' := .bf16) (iblk m c 2 t) (Rect.unit (s := S512x512) ![o0, o1] ![128, 128] hi) (ix2 i l) = (m ((c.tc : Thread nD τ).loc main_arg2)) (ix2 ⟨b.val * 2048 + T.val * 512 + o0 + i.val, by omega⟩ ⟨o1 + l.val, by omega⟩) := fun o0 o1 h0 h1 hi => by
    rw [qld o0 o1 h0 h1 _ hi i l, blk2 m c t b T ht]
    exact congrArg _ (congrArg₂ ix2 (Fin.ext (by show b.val * 2048 + T.val * 512 + (o0 + i.val) = b.val * 2048 + T.val * 512 + o0 + i.val; omega)) rfl)
  match B, s with
  | 0, 0 => exact e 0 0 (by decide) (by decide) _
  | 0, 1 => exact e 0 128 (by decide) (by decide) _
  | 0, 2 => exact e 0 256 (by decide) (by decide) _
  | 0, 3 => exact e 0 384 (by decide) (by decide) _
  | 1, 0 => exact e 128 0 (by decide) (by decide) _
  | 1, 1 => exact e 128 128 (by decide) (by decide) _
  | 1, 2 => exact e 128 256 (by decide) (by decide) _
  | 1, 3 => exact e 128 384 (by decide) (by decide) _
  | 2, 0 => exact e 256 0 (by decide) (by decide) _
  | 2, 1 => exact e 256 128 (by decide) (by decide) _
  | 2, 2 => exact e 256 256 (by decide) (by decide) _
  | 2, 3 => exact e 256 384 (by decide) (by decide) _
  | 3, 0 => exact e 384 0 (by decide) (by decide) _
  | 3, 1 => exact e 384 128 (by decide) (by decide) _
  | 3, 2 => exact e 384 256 (by decide) (by decide) _
  | 3, 3 => exact e 384 384 (by decide) (by decide) _

/-- A tile's staged keys, by key head, row and lane. -/
def KS (g : Fin 2) (r : Fin 640) (d : Fin 64) : EReal :=
  if h : r.val < 128 then (iblk m c 3 t : Vec Ideal S128x128 .f32) (ix2 ⟨r.val, h⟩ ⟨g.val * 64 + d.val, by omega⟩) else (iblk m c 4 t : Vec Ideal S512x128 .f32) (ix2 ⟨r.val - 128, by omega⟩ ⟨g.val * 64 + d.val, by omega⟩)

/-- The staged keys as a tile reads them, each key head's lanes twice. -/
theorem KS_load (g : Fin 2) (r : Fin 640) (l : Fin 128) : KK m c t g (ix2 r l) = KS m c t g r ⟨l.val % 64, by omega⟩ := by
  unfold KS
  match g with
  | 0 =>
    refine (kk0_apply _ _ r l).trans ?_
    split
    · exact congrArg (iblk m c 3 t) (congrArg₂ ix2 rfl (Fin.ext (by show l.val % 64 = 0 * 64 + l.val % 64; omega)))
    · exact congrArg (iblk m c 4 t) (congrArg₂ ix2 rfl (Fin.ext (by show l.val % 64 = 0 * 64 + l.val % 64; omega)))
  | 1 =>
    refine (kk1_apply _ _ r l).trans ?_
    split
    · exact congrArg (iblk m c 3 t) (congrArg₂ ix2 rfl (Fin.ext (by show 64 + l.val % 64 = 1 * 64 + l.val % 64; omega)))
    · exact congrArg (iblk m c 4 t) (congrArg₂ ix2 rfl (Fin.ext (by show 64 + l.val % 64 = 1 * 64 + l.val % 64; omega)))

/-- The staged keys are the array's rows, where a tile has them. -/
theorem KS_eq (b : Fin 8) (T : Fin 4) (ht : t.val = b.val * 4 + T.val) (g : Fin 2) (r : Fin 640) (d : Fin 64) (hr : 1 ≤ T.val ∨ 128 ≤ r.val) :
    KS m c t g r d = (m ((c.tc : Thread nD τ).loc main_arg3)) (ix2 ⟨b.val * 2048 + T.val * 512 + r.val - 128, by omega⟩ ⟨g.val * 64 + d.val, by omega⟩) := by
  unfold KS
  split
  · rename_i h
    exact blk3 m c t b T ht (by omega) _ _
  · rename_i h
    refine (blk4 m c t b T ht _ _).trans (congrArg _ (congrArg₂ ix2 (Fin.ext ?_) rfl))
    show b.val * 2048 + T.val * 512 + (r.val - 128) = b.val * 2048 + T.val * 512 + r.val - 128
    omega

/-- A tile's staged values, by key head, row and lane. -/
def VS (g : Fin 2) (r : Fin 640) (d : Fin 64) : EReal :=
  if h : r.val < 128 then (iblk m c 5 t : Vec Ideal S128x128 .f32) (ix2 ⟨r.val, h⟩ ⟨g.val * 64 + d.val, by omega⟩) else (iblk m c 6 t : Vec Ideal S512x128 .f32) (ix2 ⟨r.val - 128, by omega⟩ ⟨g.val * 64 + d.val, by omega⟩)

/-- The staged values as a tile reads them, each key head's lanes twice. -/
theorem VS_load (g : Fin 2) (r : Fin 640) (l : Fin 128) : VV m c t g (ix2 r l) = VS m c t g r ⟨l.val % 64, by omega⟩ := by
  unfold VS
  match g with
  | 0 =>
    refine (vv0_apply _ _ r l).trans ?_
    split
    · exact congrArg (iblk m c 5 t) (congrArg₂ ix2 rfl (Fin.ext (by show l.val % 64 = 0 * 64 + l.val % 64; omega)))
    · exact congrArg (iblk m c 6 t) (congrArg₂ ix2 rfl (Fin.ext (by show l.val % 64 = 0 * 64 + l.val % 64; omega)))
  | 1 =>
    refine (vv1_apply _ _ r l).trans ?_
    split
    · exact congrArg (iblk m c 5 t) (congrArg₂ ix2 rfl (Fin.ext (by show 64 + l.val % 64 = 1 * 64 + l.val % 64; omega)))
    · exact congrArg (iblk m c 6 t) (congrArg₂ ix2 rfl (Fin.ext (by show 64 + l.val % 64 = 1 * 64 + l.val % 64; omega)))

/-- The staged values are the array's rows, where a tile has them. -/
theorem VS_eq (b : Fin 8) (T : Fin 4) (ht : t.val = b.val * 4 + T.val) (g : Fin 2) (r : Fin 640) (d : Fin 64) (hr : 1 ≤ T.val ∨ 128 ≤ r.val) :
    VS m c t g r d = (m ((c.tc : Thread nD τ).loc main_arg4)) (ix2 ⟨b.val * 2048 + T.val * 512 + r.val - 128, by omega⟩ ⟨g.val * 64 + d.val, by omega⟩) := by
  unfold VS
  split
  · rename_i h
    exact blk5 m c t b T ht (by omega) _ _
  · rename_i h
    refine (blk6 m c t b T ht _ _).trans (congrArg _ (congrArg₂ ix2 (Fin.ext ?_) rfl))
    show b.val * 2048 + T.val * 512 + (r.val - 128) = b.val * 2048 + T.val * 512 + r.val - 128
    omega

/-- The staged keys are real numbers. -/
theorem KS_real (h3 : ∀ j, IsReal ((m ((c.tc : Thread nD τ).loc main_arg3)) j : EReal)) (g : Fin 2) (r : Fin 640) (d : Fin 64) : IsReal (KS m c t g r d) := by
  unfold KS
  split
  · obtain ⟨i, e⟩ := blk3_some m c t (ix2 ⟨r.val, by assumption⟩ ⟨g.val * 64 + d.val, by omega⟩)
    exact (congrArg IsReal e).mpr (h3 i)
  · exact h3 _

variable (b : Fin 8) (T : Fin 4) (ht : t.val = b.val * 4 + T.val)
include ht

/-- A tile's attention outputs are the reference's. -/
theorem ya_at (h1 : ∀ j, (m ((c.tc : Thread nD τ).loc main_arg1)) j ≠ (⊤ : EReal)) (h2 : ∀ j, IsReal ((m ((c.tc : Thread nD τ).loc main_arg2)) j : EReal)) (h3 : ∀ j, IsReal ((m ((c.tc : Thread nD τ).loc main_arg3)) j : EReal)) (r : Fin 512) (k : Fin 512) :
    YA m c t (ix2 r k) = val_main_v74 (F := Ideal) (m ((c.tc : Thread nD τ).loc main_arg1)) (m ((c.tc : Thread nD τ).loc main_arg2)) (m ((c.tc : Thread nD τ).loc main_arg3)) (m ((c.tc : Thread nD τ).loc main_arg4)) (ix2 ⟨b.val * 2048 + T.val * 512 + r.val, by omega⟩ k) :=
  tileOut_eq b T h1 h2 (KS m c t) (VS m c t) (KS_real m c t h3) (fun g r d h => KS_eq m c t b T ht g r d h) (fun g r d h => VS_eq m c t b T ht g r d h)
    (KK m c t) (VV m c t) (KS_load m c t) (VS_load m c t) (QQ m c t) (fun B s i l => queries m c t b T ht B s i l) (AA m c t) (fun j => sinks m c t j) _ (bias t b T ht) r k

/-- A tile's gated mix is the reference's. -/
theorem mx_at (h1 : ∀ j, (m ((c.tc : Thread nD τ).loc main_arg1)) j ≠ (⊤ : EReal)) (h2 : ∀ j, IsReal ((m ((c.tc : Thread nD τ).loc main_arg2)) j : EReal)) (h3 : ∀ j, IsReal ((m ((c.tc : Thread nD τ).loc main_arg3)) j : EReal)) (r : Fin 512) (k : Fin 1024) :
    MX m c t (ix2 r k) = val_main_v96 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 ⟨b.val * 2048 + T.val * 512 + r.val, by omega⟩ k) := by
  unfold MX
  rw [mixed_apply, Ref.v96_apply, blk8 m c t b T ht, blk9 m c t b T ht, blk10, blk11]
  refine congrArg₂ (· + ·) (congrArg₂ (· * ·) rfl (Finset.sum_congr rfl fun j _ => ?_)) (congrArg₂ (· * ·) rfl (Finset.sum_congr rfl fun j _ => ?_))
  · rw [ya_at m c t b T ht h1 h2 h3]
  · rw [blk7 m c t b T ht]

/-- A tile's residual stream is the reference's. -/
theorem h_at (h1 : ∀ j, (m ((c.tc : Thread nD τ).loc main_arg1)) j ≠ (⊤ : EReal)) (h2 : ∀ j, IsReal ((m ((c.tc : Thread nD τ).loc main_arg2)) j : EReal)) (h3 : ∀ j, IsReal ((m ((c.tc : Thread nD τ).loc main_arg3)) j : EReal)) (r : Fin 512) (k : Fin 1024) :
    k0_pay1 (F := Ideal) (iblk m c 0 t) (MX m c t) (iblk m c 12 t) (ix2 r k) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 ⟨b.val * 2048 + T.val * 512 + r.val, by omega⟩ k) := by
  rw [pay1_apply, Ref.v98_apply, blk0 m c t b T ht, blk12]
  refine congrArg₂ (· + ·) rfl (Finset.sum_congr rfl fun j _ => ?_)
  rw [mx_at m c t b T ht h1 h2 h3]

/-- A tile's memory queries are the reference's. -/
theorem hq_at (h1 : ∀ j, (m ((c.tc : Thread nD τ).loc main_arg1)) j ≠ (⊤ : EReal)) (h2 : ∀ j, IsReal ((m ((c.tc : Thread nD τ).loc main_arg2)) j : EReal)) (h3 : ∀ j, IsReal ((m ((c.tc : Thread nD τ).loc main_arg3)) j : EReal)) (r : Fin 512) (k : Fin 512) :
    k0_pay2 (F := Ideal) (iblk m c 0 t) (MX m c t) (iblk m c 12 t) (iblk m c 13 t) (iblk m c 14 t) (ix2 r k) = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 ⟨b.val * 2048 + T.val * 512 + r.val, by omega⟩ k) := by
  rw [pay2_apply, Ref.v112_apply, blk13, blk14]
  refine Finset.sum_congr rfl fun j _ => congrArg₂ (· * ·) ?_ rfl
  rw [Ref.v110_apply]
  simp only [h_at m c t b T ht h1 h2 h3]

/-- A point's block of the residual stream is the reference's. -/
theorem out15_at (h1 : ∀ j, (m ((c.tc : Thread nD τ).loc main_arg1)) j ≠ (⊤ : EReal)) (h2 : ∀ j, IsReal ((m ((c.tc : Thread nD τ).loc main_arg2)) j : EReal)) (h3 : ∀ j, IsReal ((m ((c.tc : Thread nD τ).loc main_arg3)) j : EReal)) (r : Fin 512) (k : Fin 1024) :
    (outsAt0 (F := Ideal) m c t).1 (ix2 r k) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix2 ⟨b.val * 2048 + T.val * 512 + r.val, by omega⟩ k) :=
  (out15_form m c t r k).trans (h_at m c t b T ht h1 h2 h3 r k)

/-- A point's block of the memory queries is the reference's. -/
theorem out16_at (h1 : ∀ j, (m ((c.tc : Thread nD τ).loc main_arg1)) j ≠ (⊤ : EReal)) (h2 : ∀ j, IsReal ((m ((c.tc : Thread nD τ).loc main_arg2)) j : EReal)) (h3 : ∀ j, IsReal ((m ((c.tc : Thread nD τ).loc main_arg3)) j : EReal)) (r : Fin 512) (k : Fin 512) :
    (outsAt0 (F := Ideal) m c t).2 (ix2 r k) = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (ix2 ⟨b.val * 2048 + T.val * 512 + r.val, by omega⟩ k) :=
  (out16_form m c t r k).trans (hq_at m c t b T ht h1 h2 h3 r k)

end Point

section Final
variable (m : (ℓ : Loc nD τ sig) → Buf (Elt Ideal) ℓ)
variable (c : Dev nD)

/-- The run's residual stream is the reference's. -/
theorem final15 (h1 : ∀ j, (m ((c.tc : Thread nD τ).loc main_arg1)) j ≠ (⊤ : EReal)) (h2 : ∀ j, IsReal ((m ((c.tc : Thread nD τ).loc main_arg2)) j : EReal)) (h3 : ∀ j, IsReal ((m ((c.tc : Thread nD τ).loc main_arg3)) j : EReal)) : (dats (F := Ideal) m 0 c).arrAt 15 cfg0.N = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (dats (F := Ideal) m 0 c).arrAt_eq_of_covers 15 (val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (by decide +kernel) fun t hf y => ?_
  have hN : t.val < 32 := lt_of_lt_of_eq t.isLt (show cfg0.N = 32 from N_0)
  blk_simp
  rw [after0_15]
  idx_vars y
  refine (out15_at m c t ⟨t.val / 4, by omega⟩ ⟨t.val % 4, by omega⟩ (show t.val = t.val / 4 * 4 + t.val % 4 by omega) h1 h2 h3 _ _).trans ?_
  refine congrArg _ ?_
  blk_ext [idx t]

/-- The run's array of memory queries is the reference's. -/
theorem final16 (h1 : ∀ j, (m ((c.tc : Thread nD τ).loc main_arg1)) j ≠ (⊤ : EReal)) (h2 : ∀ j, IsReal ((m ((c.tc : Thread nD τ).loc main_arg2)) j : EReal)) (h3 : ∀ j, IsReal ((m ((c.tc : Thread nD τ).loc main_arg3)) j : EReal)) : (dats (F := Ideal) m 0 c).arrAt 16 cfg0.N = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (dats (F := Ideal) m 0 c).arrAt_eq_of_covers 16 (val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (by decide +kernel) fun t hf y => ?_
  have hN : t.val < 32 := lt_of_lt_of_eq t.isLt (show cfg0.N = 32 from N_0)
  blk_simp
  rw [after0_16]
  idx_vars y
  refine (out16_at m c t ⟨t.val / 4, by omega⟩ ⟨t.val % 4, by omega⟩ (show t.val = t.val / 4 * 4 + t.val % 4 by omega) h1 h2 h3 _ _).trans ?_
  refine congrArg _ ?_
  blk_ext [idx t]

end Final

end Cert.Merge.Val
end
-- ==== Proof.MergeClaim.lean ====
module

public import proofs.«01_k».proof.Proof.MergeVal
public import proofs.«01_k».proof.Proof.Gen.KernelIdeal.Frame
public import proofs.«01_k».proof.Proof.Gen.KernelIdeal.Value
public import Idealize.ShloMosaic.Lib.Pointwise
public import Idealize.ShloMosaic.Lib.Pipeline.ValueKit
public import Idealize.ShloMosaic.Lib.Pipeline.Value
public import Idealize.ShloMosaic.Lib.IdealHost
public import Idealize.ShloMosaic.Lib.Claim
public import proofs.«01_k».proof.Defs
public import proofs.«01_k».proof.Proof.FfnClaim
public import proofs.«01_k».proof.Proof.Gen.ReferenceIdeal.Run

@[expose] public section

set_option maxRecDepth 16384

noncomputable section

open Idealize.ShloMosaic Idealize.ShloMosaic.TcCoe Idealize.SL.Sem

open Idealize.ShloMosaic.Pipeline (Dat)

namespace Cert.Merge
open Cert.Soft

/-- The precondition's side conditions. -/
theorem pre_facts : Cert.Pre_real_scores.Facts where
  bitsLt_bf16_f32 := by decide
  bcast_S_S16384x512 := by decide
  bcast_S_S16384x128 := by decide
  bcast_S_S8 := by decide

/-- Under the precondition the queries are real numbers. -/
theorem pre_q (m : (ℓ : Loc Cert.KernelIdeal.nD Cert.KernelIdeal.τ Cert.KernelIdeal.sig) → Buf (Elt Ideal) ℓ) (h : Cert.Pre_KernelIdeal_real_scores (hPre_real_scores := pre_facts) m) (c : Dev Cert.KernelIdeal.nD) (i) :
    IsReal (m ((c.tc : Thread Cert.KernelIdeal.nD Cert.KernelIdeal.τ).loc Cert.KernelIdeal.main_arg2) i : EReal) :=
  Decode.isReal_of_cmp _ (congrFun (h c).1 i)

/-- Under the precondition the keys are real numbers. -/
theorem pre_k (m : (ℓ : Loc Cert.KernelIdeal.nD Cert.KernelIdeal.τ Cert.KernelIdeal.sig) → Buf (Elt Ideal) ℓ) (h : Cert.Pre_KernelIdeal_real_scores (hPre_real_scores := pre_facts) m) (c : Dev Cert.KernelIdeal.nD) (i) :
    IsReal (m ((c.tc : Thread Cert.KernelIdeal.nD Cert.KernelIdeal.τ).loc Cert.KernelIdeal.main_arg3) i : EReal) :=
  Decode.isReal_of_cmp _ (congrFun (h c).2.1 i)

/-- Under the precondition no sink is plus infinity. -/
theorem pre_s (m : (ℓ : Loc Cert.KernelIdeal.nD Cert.KernelIdeal.τ Cert.KernelIdeal.sig) → Buf (Elt Ideal) ℓ) (h : Cert.Pre_KernelIdeal_real_scores (hPre_real_scores := pre_facts) m) (c : Dev Cert.KernelIdeal.nD) (i) :
    (m ((c.tc : Thread Cert.KernelIdeal.nD Cert.KernelIdeal.τ).loc Cert.KernelIdeal.main_arg1) i : EReal) ≠ (⊤ : EReal) :=
  Decode.ne_top_of_cmp _ (congrFun (h c).2.2 i)

set_option maxHeartbeats 1600000 in
/-- The merge kernel over the extended reals and its reference, run on the same arrays, return the same results. -/
theorem algebraic : Cert.algebraic_KernelIdeal_ReferenceIdeal_pre_real_scores (hKernelIdeal := Cert.KernelIdeal.Gen.facts) (hReferenceIdeal := Cert.ReferenceIdeal.Gen.facts) (hPre_real_scores := pre_facts) := by
  pair_intro
  · run_from Cert.KernelIdeal.Gen.run_main m g
    · exact hc.1 16
  · run_from Cert.ReferenceIdeal.Value.run m' g'
    · obtain ⟨e0, e1, e2, e3, e4, e5, e6, e7, e8, e9, e10, e11, e12⟩ := hagree c
      refine Eq.trans ?_ (Val.final15 m c (pre_s m hpre c) (pre_q m hpre c) (pre_k m hpre c)).symm
      rw [← e0, ← e1, ← e2, ← e3, ← e4, ← e5, ← e6, ← e7, ← e8, ← e9, ← e10]
      exact Cert.ReferenceIdeal.Read.val_main_v98_eq (F := Ideal) m' c
    · obtain ⟨e0, e1, e2, e3, e4, e5, e6, e7, e8, e9, e10, e11, e12⟩ := hagree c
      refine Eq.trans ?_ (Val.final16 m c (pre_s m hpre c) (pre_q m hpre c) (pre_k m hpre c)).symm
      rw [← e0, ← e1, ← e2, ← e3, ← e4, ← e5, ← e6, ← e7, ← e8, ← e9, ← e10, ← e11, ← e12]
      exact Cert.ReferenceIdeal.Read.val_main_v112_eq (F := Ideal) m' c

end Cert.Merge
end
-- ==== Proof.Strided.lean ====
module

public import Idealize.ShloMosaic.Lib.Writes

@[expose] public section

noncomputable section

open Idealize.ShloMosaic

namespace Cert.Strided

/-- A 2048-by-128 block, whose rows are four interleaved families. -/
abbrev Rows : Shape := ⟨2, ![2048, 128]⟩

/-- A rectangle of every fourth row, from row `h` on. -/
def Fourth (h : ℕ) (r : Rect Rows) : Prop :=
  r.off = ![h, 0] ∧ r.size = ![512, 128] ∧ r.stride = ![4, 1]

/-- A place lies in the rectangle of every fourth row from row `h` on when its row leaves the remainder `h`. -/
theorem mem_fourth {h : ℕ} (hh : h < 4) {r : Rect Rows} (hr : Fourth h r) (y : Rows.Idx) (hy : (y 0).val % 4 = h) : y ∈ r.set := by
  obtain ⟨ho, hs, ht⟩ := hr
  have h0 : (y 0).val < 2048 := (y 0).isLt
  have h1 : (y 1).val < 128 := (y 1).isLt
  refine r.mem_set.mpr fun a => ?_
  rw [ho, hs, ht]
  match a with
  | 0 => exact ⟨(y 0).val / 4, by show _ < 512; omega, by show _ = h + 4 * _; omega⟩
  | 1 => exact ⟨(y 1).val, h1, by show _ = 0 + 1 * _; omega⟩

/-- A place whose row leaves another remainder lies outside the rectangle. -/
theorem not_mem_fourth {h : ℕ} (hh : h < 4) {r : Rect Rows} (hr : Fourth h r) (y : Rows.Idx) (hy : (y 0).val % 4 ≠ h) : y ∉ r.set := by
  obtain ⟨ho, hs, ht⟩ := hr
  intro hm
  obtain ⟨j, -, e⟩ := r.mem_set.mp hm 0
  rw [ho, ht] at e
  have e' : (y 0).val = h + 4 * j := e
  omega

/-- Row `x 0` of the rectangle of every fourth row from row `h` on is row `4 (x 0) + h` of the block. -/
theorem at_fourth (h : ℕ) {r : Rect Rows} (hr : Fourth h r) (y : Rows.Idx) (x : Fin 2 → ℕ) (h0 : (y 0).val = 4 * x 0 + h) (h1 : (y 1).val = x 1)
    (a : Fin 2) : (y a).val = r.off a + r.stride a * x a := by
  obtain ⟨ho, -, ht⟩ := hr
  rw [ho, ht]
  match a with
  | 0 => show _ = h + 4 * x 0; omega
  | 1 => show _ = 0 + 1 * x 1; omega

/-- Four rectangles of every fourth row, one from each of the first four rows on, cover the block. -/
theorem cover {Val : EltTy → Type} {e : EltTy} (p0 p1 p2 p3 : View.Piece Val Rows e)
    (h0 : Fourth 0 p0.1) (h1 : Fourth 1 p1.1) (h2 : Fourth 2 p2.1) (h3 : Fourth 3 p3.1) (y : Rows.Idx) :
    ∃ p ∈ [p3, p2, p1, p0], y ∈ p.1.set := by
  have : (y 0).val % 4 = 0 ∨ (y 0).val % 4 = 1 ∨ (y 0).val % 4 = 2 ∨ (y 0).val % 4 = 3 := by omega
  rcases this with e | e | e | e
  · exact ⟨p0, by simp, mem_fourth (by decide) h0 y e⟩
  · exact ⟨p1, by simp, mem_fourth (by decide) h1 y e⟩
  · exact ⟨p2, by simp, mem_fourth (by decide) h2 y e⟩
  · exact ⟨p3, by simp, mem_fourth (by decide) h3 y e⟩

end Cert.Strided

end
-- ==== Proof.MemRunIdeal.lean ====
module

public import proofs.«01_k».proof.Proof.Gen.Kernel2Ideal.Frame
public import proofs.«01_k».proof.Proof.Gen.Kernel2Ideal.Skeleton
public import proofs.«01_k».proof.Proof.Strided
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Running the body on whole buffers: the inputs' buffers keep their contents and each result's buffer ends with the listed pieces written to it. -/
noncomputable def bodyRun (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x128 .f32) (harg6 : arg6.IsWhole) (arg7 : Memref sig .tc .vmem S2048x128 .f32) (harg7 : arg7.IsWhole)
    (x0 : Vec F S512x1024 .f32) (x1 : Vec F S1x1024 .f32) (x2 : Vec F S1024x1024 .bf16) :
    Σ' (L3 : List (View.Piece (Elt F) S512x512 .f32)), Σ' (L4 : List (View.Piece (Elt F) S512x512 .f32)), Σ' (L5 : List (View.Piece (Elt F) S2048x128 .f32)), { L6 : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_mem_kv i arg1 harg1 arg2 harg2 arg3 harg3 arg4 harg4 arg5 harg5 arg6 harg6 arg7 harg7) K } := by
  refine ⟨?_, ?_, ?_, ?_, fun E K => ?run⟩
  case run =>
    simp only [cc0_mem_kv_eq_skeleton]; unfold cc0_mem_kv_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact H6

end Cert.Kernel2Ideal.Hand

end
-- ==== Proof.MemFrameIdeal.lean ====
module

public import proofs.«01_k».proof.Proof.Gen.Kernel2Ideal.Frame
public import proofs.«01_k».proof.Proof.Gen.Kernel2Ideal.Skeleton
public import proofs.«01_k».proof.Proof.MemRunIdeal
public import Idealize.ShloMosaic.Lib.Pipeline.ValueKit
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer of each result, through which its contents are stated. -/
abbrev view3 : View sig .tc .vmem S512x512 .f32 := (Memref.whole cc0_stg3_0 : Memref sig .tc .vmem S512x512 .f32).view
abbrev view4 : View sig .tc .vmem S512x512 .f32 := (Memref.whole cc0_stg4_0 : Memref sig .tc .vmem S512x512 .f32).view
abbrev view5 : View sig .tc .vmem S2048x128 .f32 := (Memref.whole cc0_stg5_0 : Memref sig .tc .vmem S2048x128 .f32).view
abbrev view6 : View sig .tc .vmem S2048x128 .f32 := (Memref.whole cc0_stg6_0 : Memref sig .tc .vmem S2048x128 .f32).view

/-- The buffer the pipeline hands the body for window 0, and that it is a whole buffer. -/
abbrev buf0 (t : Fin cfg0.N) : Memref sig .tc .vmem S512x1024 .f32 := win0_0.stage (cfg0.slots t 0)
theorem whole0 (t : Fin cfg0.N) : (buf0 t).IsWhole := hstage0_0 ((cfg0.slots t 0).cast nbuf0_0)
/-- The buffer the pipeline hands the body for window 1, and that it is a whole buffer. -/
abbrev buf1 (t : Fin cfg0.N) : Memref sig .tc .vmem S1x1024 .f32 := win0_1.stage (cfg0.slots t 1)
theorem whole1 (t : Fin cfg0.N) : (buf1 t).IsWhole := hstage0_1 ((cfg0.slots t 1).cast nbuf0_1)
/-- The buffer the pipeline hands the body for window 2, and that it is a whole buffer. -/
abbrev buf2 (t : Fin cfg0.N) : Memref sig .tc .vmem S1024x1024 .bf16 := win0_2.stage (cfg0.slots t 2)
theorem whole2 (t : Fin cfg0.N) : (buf2 t).IsWhole := hstage0_2 ((cfg0.slots t 2).cast nbuf0_2)
/-- The buffer the pipeline hands the body for window 3, and that it is a whole buffer. -/
abbrev buf3 (t : Fin cfg0.N) : Memref sig .tc .vmem S512x512 .f32 := win0_3.stage (cfg0.slots t 3)
theorem whole3 (t : Fin cfg0.N) : (buf3 t).IsWhole := hstage0_3 ((cfg0.slots t 3).cast nbuf0_3)
/-- The buffer the pipeline hands the body for window 4, and that it is a whole buffer. -/
abbrev buf4 (t : Fin cfg0.N) : Memref sig .tc .vmem S512x512 .f32 := win0_4.stage (cfg0.slots t 4)
theorem whole4 (t : Fin cfg0.N) : (buf4 t).IsWhole := hstage0_4 ((cfg0.slots t 4).cast nbuf0_4)
/-- The buffer the pipeline hands the body for window 5, and that it is a whole buffer. -/
abbrev buf5 (t : Fin cfg0.N) : Memref sig .tc .vmem S2048x128 .f32 := win0_5.stage (cfg0.slots t 5)
theorem whole5 (t : Fin cfg0.N) : (buf5 t).IsWhole := hstage0_5 ((cfg0.slots t 5).cast nbuf0_5)
/-- The buffer the pipeline hands the body for window 6, and that it is a whole buffer. -/
abbrev buf6 (t : Fin cfg0.N) : Memref sig .tc .vmem S2048x128 .f32 := win0_6.stage (cfg0.slots t 6)
theorem whole6 (t : Fin cfg0.N) : (buf6 t).IsWhole := hstage0_6 ((cfg0.slots t 6).cast nbuf0_6)

/-- Every fourth row from row 0 on. -/
abbrev rect0 : Rect S2048x128 := ⟨(⟨![0, 0], S512x128.size, ![4, 1], inb_S2048x128_S512x128_0_0_s_4_1⟩ : LoadRect S2048x128), spos_4_1⟩
/-- Every fourth row from row 1 on. -/
abbrev rect1 : Rect S2048x128 := ⟨(⟨![1, 0], S512x128.size, ![4, 1], inb_S2048x128_S512x128_1_0_s_4_1⟩ : LoadRect S2048x128), spos_4_1⟩
/-- Every fourth row from row 2 on. -/
abbrev rect2 : Rect S2048x128 := ⟨(⟨![2, 0], S512x128.size, ![4, 1], inb_S2048x128_S512x128_2_0_s_4_1⟩ : LoadRect S2048x128), spos_4_1⟩
/-- Every fourth row from row 3 on. -/
abbrev rect3 : Rect S2048x128 := ⟨(⟨![3, 0], S512x128.size, ![4, 1], inb_S2048x128_S512x128_3_0_s_4_1⟩ : LoadRect S2048x128), spos_4_1⟩

/-- Four blocks written to every fourth row, from rows 0, 1, 2 and 3 on. -/
def rowPieces (p0 p1 p2 p3 : Vec F S512x128 .f32) : List (View.Piece (Elt F) S2048x128 .f32) :=
  [⟨rect3, p3⟩, ⟨rect2, p2⟩, ⟨rect1, p1⟩, ⟨rect0, p0⟩]

/-- The four blocks cover the buffer. -/
theorem rowPieces_cover (p0 p1 p2 p3 : Vec F S512x128 .f32) (y : S2048x128.Idx) : ∃ pc ∈ rowPieces p0 p1 p2 p3, y ∈ pc.1.set :=
  Strided.cover _ _ _ _ ⟨rfl, rfl, rfl⟩ ⟨rfl, rfl, rfl⟩ ⟨rfl, rfl, rfl⟩ ⟨rfl, rfl, rfl⟩ y

/-- Row `4 r` of the buffer is row `r` of the first block. -/
theorem rowPieces_read0 {v : View sig .tc .vmem S2048x128 .f32} {f : v.ty.Contents (Elt F)} {p0 p1 p2 p3 : Vec F S512x128 .f32}
    (y : S2048x128.Idx) (x : S512x128.Idx) (h0 : (y 0).val = 4 * (x 0).val) (h1 : (y 1).val = (x 1).val) :
    v.read (Elt F) (v.writes (Elt F) f (rowPieces p0 p1 p2 p3)) y = p0 x := by
  unfold rowPieces
  rw [View.read_writes_cons_miss v f _ _ y (Strided.not_mem_fourth (h := 3) (by decide) ⟨rfl, rfl, rfl⟩ y (by omega)),
    View.read_writes_cons_miss v f _ _ y (Strided.not_mem_fourth (h := 2) (by decide) ⟨rfl, rfl, rfl⟩ y (by omega)),
    View.read_writes_cons_miss v f _ _ y (Strided.not_mem_fourth (h := 1) (by decide) ⟨rfl, rfl, rfl⟩ y (by omega))]
  exact View.read_writes_cons_hit_of_coords v f rect0 p0 _ x y (Strided.at_fourth 0 (r := rect0) ⟨rfl, rfl, rfl⟩ y (fun a => (x a).val) h0 h1)

/-- Row `4 r + 1` of the buffer is row `r` of the second block. -/
theorem rowPieces_read1 {v : View sig .tc .vmem S2048x128 .f32} {f : v.ty.Contents (Elt F)} {p0 p1 p2 p3 : Vec F S512x128 .f32}
    (y : S2048x128.Idx) (x : S512x128.Idx) (h0 : (y 0).val = 4 * (x 0).val + 1) (h1 : (y 1).val = (x 1).val) :
    v.read (Elt F) (v.writes (Elt F) f (rowPieces p0 p1 p2 p3)) y = p1 x := by
  unfold rowPieces
  rw [View.read_writes_cons_miss v f _ _ y (Strided.not_mem_fourth (h := 3) (by decide) ⟨rfl, rfl, rfl⟩ y (by omega)),
    View.read_writes_cons_miss v f _ _ y (Strided.not_mem_fourth (h := 2) (by decide) ⟨rfl, rfl, rfl⟩ y (by omega))]
  exact View.read_writes_cons_hit_of_coords v f rect1 p1 _ x y (Strided.at_fourth 1 (r := rect1) ⟨rfl, rfl, rfl⟩ y (fun a => (x a).val) h0 h1)

/-- Row `4 r + 2` of the buffer is row `r` of the third block. -/
theorem rowPieces_read2 {v : View sig .tc .vmem S2048x128 .f32} {f : v.ty.Contents (Elt F)} {p0 p1 p2 p3 : Vec F S512x128 .f32}
    (y : S2048x128.Idx) (x : S512x128.Idx) (h0 : (y 0).val = 4 * (x 0).val + 2) (h1 : (y 1).val = (x 1).val) :
    v.read (Elt F) (v.writes (Elt F) f (rowPieces p0 p1 p2 p3)) y = p2 x := by
  unfold rowPieces
  rw [View.read_writes_cons_miss v f _ _ y (Strided.not_mem_fourth (h := 3) (by decide) ⟨rfl, rfl, rfl⟩ y (by omega))]
  exact View.read_writes_cons_hit_of_coords v f rect2 p2 _ x y (Strided.at_fourth 2 (r := rect2) ⟨rfl, rfl, rfl⟩ y (fun a => (x a).val) h0 h1)

/-- Row `4 r + 3` of the buffer is row `r` of the fourth block. -/
theorem rowPieces_read3 {v : View sig .tc .vmem S2048x128 .f32} {f : v.ty.Contents (Elt F)} {p0 p1 p2 p3 : Vec F S512x128 .f32}
    (y : S2048x128.Idx) (x : S512x128.Idx) (h0 : (y 0).val = 4 * (x 0).val + 3) (h1 : (y 1).val = (x 1).val) :
    v.read (Elt F) (v.writes (Elt F) f (rowPieces p0 p1 p2 p3)) y = p3 x := by
  unfold rowPieces
  exact View.read_writes_cons_hit_of_coords v f rect3 p3 _ x y (Strided.at_fourth 3 (r := rect3) ⟨rfl, rfl, rfl⟩ y (fun a => (x a).val) h0 h1)

/-- The pieces the body writes to the flat keys. -/
theorem pieces5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x128 .f32) (harg6 : arg6.IsWhole) (arg7 : Memref sig .tc .vmem S2048x128 .f32) (harg7 : arg7.IsWhole)
    (x0 : Vec F S512x1024 .f32) (x1 : Vec F S1x1024 .f32) (x2 : Vec F S1024x1024 .bf16) : (bodyRun c i arg1 harg1 arg2 harg2 arg3 harg3 arg4 harg4 arg5 harg5 arg6 harg6 arg7 harg7 x0 x1 x2).2.2.1 = rowPieces (k0_pay7 x0 x1 x2) (k0_pay9 x0 x1 x2) (k0_pay11 x0 x1 x2) (k0_pay2 (k0_pay4 x0 x1 x2)) := by
  unfold rowPieces
  delta bodyRun
  dsimp only
  frame_out

/-- The pieces the body writes to the flat values. -/
theorem pieces6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x128 .f32) (harg6 : arg6.IsWhole) (arg7 : Memref sig .tc .vmem S2048x128 .f32) (harg7 : arg7.IsWhole)
    (x0 : Vec F S512x1024 .f32) (x1 : Vec F S1x1024 .f32) (x2 : Vec F S1024x1024 .bf16) : (bodyRun c i arg1 harg1 arg2 harg2 arg3 harg3 arg4 harg4 arg5 harg5 arg6 harg6 arg7 harg7 x0 x1 x2).2.2.2.1 = rowPieces (k0_pay8 x0 x1 x2) (k0_pay10 x0 x1 x2) (k0_pay1 (k0_pay4 x0 x1 x2)) (k0_pay3 (k0_pay4 x0 x1 x2)) := by
  unfold rowPieces
  delta bodyRun
  dsimp only
  frame_out

/-- The body writes the whole of the keys' block. -/
theorem cover3 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x128 .f32) (harg6 : arg6.IsWhole) (arg7 : Memref sig .tc .vmem S2048x128 .f32) (harg7 : arg7.IsWhole)
    (x0 : Vec F S512x1024 .f32) (x1 : Vec F S1x1024 .f32) (x2 : Vec F S1024x1024 .bf16) (y : S512x512.Idx) : ∃ pc ∈ (bodyRun c i arg1 harg1 arg2 harg2 arg3 harg3 arg4 harg4 arg5 harg5 arg6 harg6 arg7 harg7 x0 x1 x2).1, y ∈ pc.1.set :=
  View.cover_of_tiledL (bodyRun c i arg1 harg1 arg2 harg2 arg3 harg3 arg4 harg4 arg5 harg5 arg6 harg6 arg7 harg7 x0 x1 x2).1 S512x512.size (by sl_kernel_rfl) y

/-- The body writes the whole of the values' block. -/
theorem cover4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x128 .f32) (harg6 : arg6.IsWhole) (arg7 : Memref sig .tc .vmem S2048x128 .f32) (harg7 : arg7.IsWhole)
    (x0 : Vec F S512x1024 .f32) (x1 : Vec F S1x1024 .f32) (x2 : Vec F S1024x1024 .bf16) (y : S512x512.Idx) : ∃ pc ∈ (bodyRun c i arg1 harg1 arg2 harg2 arg3 harg3 arg4 harg4 arg5 harg5 arg6 harg6 arg7 harg7 x0 x1 x2).2.1, y ∈ pc.1.set :=
  View.cover_of_tiledL (bodyRun c i arg1 harg1 arg2 harg2 arg3 harg3 arg4 harg4 arg5 harg5 arg6 harg6 arg7 harg7 x0 x1 x2).2.1 S512x512.size (by sl_kernel_rfl) y

/-- What the keys' block is read back as. -/
theorem written3 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x128 .f32) (harg6 : arg6.IsWhole) (arg7 : Memref sig .tc .vmem S2048x128 .f32) (harg7 : arg7.IsWhole)
    (x0 : Vec F S512x1024 .f32) (x1 : Vec F S1x1024 .f32) (x2 : Vec F S1024x1024 .bf16) : view3.read (Elt F) (view3.writes (Elt F) view3.junk (bodyRun c i arg1 harg1 arg2 harg2 arg3 harg3 arg4 harg4 arg5 harg5 arg6 harg6 arg7 harg7 x0 x1 x2).1) = k0_pay5 x0 x1 x2 := by
  delta bodyRun
  dsimp only
  frame_out

/-- What the values' block is read back as. -/
theorem written4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S2048x128 .f32) (harg6 : arg6.IsWhole) (arg7 : Memref sig .tc .vmem S2048x128 .f32) (harg7 : arg7.IsWhole)
    (x0 : Vec F S512x1024 .f32) (x1 : Vec F S1x1024 .f32) (x2 : Vec F S1024x1024 .bf16) : view4.read (Elt F) (view4.writes (Elt F) view4.junk (bodyRun c i arg1 harg1 arg2 harg2 arg3 harg3 arg4 harg4 arg5 harg5 arg6 harg6 arg7 harg7 x0 x1 x2).2.1) = k0_pay6 x0 x1 x2 := by
  delta bodyRun
  dsimp only
  frame_out

/-- What the flat keys' buffer holds after the body. -/
def flatK (x0 : Vec F S512x1024 .f32) (x1 : Vec F S1x1024 .f32) (x2 : Vec F S1024x1024 .bf16) : Vec F S2048x128 .f32 :=
  view5.read (Elt F) (view5.writes (Elt F) view5.junk (rowPieces (k0_pay7 x0 x1 x2) (k0_pay9 x0 x1 x2) (k0_pay11 x0 x1 x2) (k0_pay2 (k0_pay4 x0 x1 x2))))

/-- What the flat values' buffer holds after the body. -/
def flatV (x0 : Vec F S512x1024 .f32) (x1 : Vec F S1x1024 .f32) (x2 : Vec F S1024x1024 .bf16) : Vec F S2048x128 .f32 :=
  view6.read (Elt F) (view6.writes (Elt F) view6.junk (rowPieces (k0_pay8 x0 x1 x2) (k0_pay10 x0 x1 x2) (k0_pay1 (k0_pay4 x0 x1 x2)) (k0_pay3 (k0_pay4 x0 x1 x2))))

/-- The pipeline's data on a core: the arrays as launched, and after the body at a point each input's block and each result's block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (iblk m c 0 t) (iblk m c 1 t) (iblk m c 2 t)
    | ⟨4, _⟩ => k0_pay6 (iblk m c 0 t) (iblk m c 1 t) (iblk m c 2 t)
    | ⟨5, _⟩ => flatK (iblk m c 0 t) (iblk m c 1 t) (iblk m c 2 t)
    | ⟨6, _⟩ => flatV (iblk m c 0 t) (iblk m c 1 t) (iblk m c 2 t)
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay5 (iblk m c 0 t) (iblk m c 1 t) (iblk m c 2 t) := by dsimp only [dats]
theorem after4 (c : Dev nD) (t : Fin cfg0.N) : (dats m 0 c).after 4 t = k0_pay6 (iblk m c 0 t) (iblk m c 1 t) (iblk m c 2 t) := by dsimp only [dats]
theorem after5 (c : Dev nD) (t : Fin cfg0.N) : (dats m 0 c).after 5 t = flatK (iblk m c 0 t) (iblk m c 1 t) (iblk m c 2 t) := by dsimp only [dats]
theorem after6 (c : Dev nD) (t : Fin cfg0.N) : (dats m 0 c).after 6 t = flatV (iblk m c 0 t) (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the pipeline hands the body at a point. -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d)) ∗ (∃ d, owns (c : Thread nD τ) (buf1 t) fullShare ((dats m 0 c).before 1 t d)) ∗ (∃ d, owns (c : Thread nD τ) (buf2 t) fullShare ((dats m 0 c).before 2 t d)) ∗ (∃ d, owns (c : Thread nD τ) (buf3 t) fullShare ((dats m 0 c).before 3 t d)) ∗ (∃ d, owns (c : Thread nD τ) (buf4 t) fullShare ((dats m 0 c).before 4 t d)) ∗ (∃ d, owns (c : Thread nD τ) (buf5 t) fullShare ((dats m 0 c).before 5 t d)) ∗ (∃ d, owns (c : Thread nD τ) (buf6 t) fullShare ((dats m 0 c).before 6 t d)))

/-- What the body hands back. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t) ∗ owns (c : Thread nD τ) (buf1 t) fullShare ((dats m 0 c).after 1 t) ∗ owns (c : Thread nD τ) (buf2 t) fullShare ((dats m 0 c).after 2 t) ∗ owns (c : Thread nD τ) (buf3 t) fullShare ((dats m 0 c).after 3 t) ∗ owns (c : Thread nD τ) (buf4 t) fullShare ((dats m 0 c).after 4 t) ∗ owns (c : Thread nD τ) (buf5 t) fullShare ((dats m 0 c).after 5 t) ∗ owns (c : Thread nD τ) (buf6 t) fullShare ((dats m 0 c).after 6 t))

set_option maxHeartbeats 1600000 in
/-- The body at any point turns what it is handed into what it hands back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((bodyRun c (grid0.coords t) _ _ _ _ _ _ _ _ _ _ _ _ _ _ (iblk m c 0 t) (iblk m c 1 t) (iblk m c 2 t)).2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, ⟨%e3, H3⟩, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro
    exact (View.read_writes_of_cover _ _ _ _ _ (cover3 c _ _ _ _ _ _ _ _ _ _ _ _ _ _ _ _ _ _)).trans (written3 c _ _ _ _ _ _ _ _ _ _ _ _ _ _ _ _ _ _)
  isplitl [H4]
  · unfold owns; iexists _; isplitr
    swap; · iexact H4
    ipureintro
    exact (View.read_writes_of_cover _ _ _ _ _ (cover4 c _ _ _ _ _ _ _ _ _ _ _ _ _ _ _ _ _ _)).trans (written4 c _ _ _ _ _ _ _ _ _ _ _ _ _ _ _ _ _ _)
  isplitl [H5]
  · unfold owns; iexists _; isplitr
    swap; · iexact H5
    ipureintro
    unfold flatK
    rw [pieces5]
    exact View.read_writes_of_cover _ _ _ _ _ (rowPieces_cover _ _ _ _)
  unfold owns; iexists _; isplitr
  swap; · iexact H6
  ipureintro
  unfold flatV
  rw [pieces6]
  exact View.read_writes_of_cover _ _ _ _ _ (rowPieces_cover _ _ _ _)

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs to its end with every array at what the pipeline's data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun _ _ => by unfold Dat.share; split <;> rfl)
    (howed := fun _ _ => rfl) (V := V m) (hmain := hmain m Variants.none) (hA := A_eq m) (hΦ := fun _ _ => rfl)

/-- The call runs to its end with every array at what the pipeline's data says. -/
theorem run_main : θ_run defs (onTc (τ := τ) (main (F := F))) (s₀ m ρ) (Pipeline.FramePost cfgs (dats m) 0 (V m)) :=
  (θ_run defs _ _).mono (fun _ h => h.1) (run_main_quiescent m ρ)

/-- The call runs to its end, keeps its arguments and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel2Ideal.Hand

end
-- ==== Proof.MemVal.lean ====
module

public import proofs.«01_k».proof.Proof.Soft
public import proofs.«01_k».proof.Proof.MemFrameIdeal
public import proofs.«01_k».proof.Proof.Gen.Reference2Ideal.Read
public import Idealize.ShloMosaic.Lib.Pointwise
public import Idealize.ShloMosaic.Lib.Pipeline.ValueKit
public import Idealize.ShloMosaic.Lib.Pipeline.Value
public import Idealize.ShloMosaic.Lib.IdealHost

@[expose] public section

set_option maxRecDepth 16384

noncomputable section

open Idealize.ShloMosaic Idealize.ShloMosaic.TcCoe Idealize.SL.Sem

open Idealize.ShloMosaic.Pipeline (Dat)

namespace Cert.Memkv
open Cert.Kernel2Ideal Cert.Kernel2Ideal.Gen Cert.Kernel2Ideal.Hand Cert.Soft
open Cert.Reference2Ideal.Read

/-- The projection of a normalised row `x` with weights `g` onto a column `w`. -/
def proj (x g w : Fin 1024 → EReal) : EReal :=
  ∑ k, x k * Ideal.rsqrt (Ideal.div (∑ j, x j * x j) (Ideal.ofBits FTy.f32 0x44800000#32) + Ideal.ofBits FTy.f32 0x358637BD#32) * g k * w k

/-- The kernel's product at an index. -/
theorem pay4_apply (x0 : Vec Ideal S512x1024 .f32) (x1 : Vec Ideal S1x1024 .f32) (x2 : Vec Ideal S1024x1024 .bf16) (r : Fin 512) (k : Fin 1024) :
    k0_pay4 (F := Ideal) x0 x1 x2 (ix2 r k) = proj (fun j => x0 (ix2 r j)) (fun j => x1 (ix2 0 j)) (fun j => x2 (ix2 j k)) := by
  unfold proj
  pointwise [k0_pay4]

/-- The reference's product at an index. -/
theorem v13_apply (x0 : (⟨Cert.Reference2Ideal.S2048x1024, .f32⟩ : BufTy).Contents (Elt Ideal)) (x1 : (⟨Cert.Reference2Ideal.S1x1024, .f32⟩ : BufTy).Contents (Elt Ideal)) (x2 : (⟨Cert.Reference2Ideal.S1024x1024, .bf16⟩ : BufTy).Contents (Elt Ideal)) (r : Fin 2048) (k : Fin 1024) :
    val_main_v13 (F := Ideal) x0 x1 x2 (ix2 r k) = proj (fun j => x0 (ix2 r j)) (fun j => x1 (ix2 0 j)) (fun j => x2 (ix2 j k)) := by
  unfold proj
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

variable (m : (ℓ : Loc nD τ sig) → Buf (Elt Ideal) ℓ)

/-- Where each window's block sits at a point. -/
theorem idx : ∀ t : Fin grid0.N,
    win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] := by
  decide +kernel

/-- A point's flat keys: row `4 r + h` holds head `h`'s keys of row `r`. -/
theorem flatK_apply (x0 : Vec Ideal S512x1024 .f32) (x1 : Vec Ideal S1x1024 .f32) (x2 : Vec Ideal S1024x1024 .bf16) (R : Fin 2048) (l : Fin 128) :
    flatK (F := Ideal) x0 x1 x2 (ix2 R l) = k0_pay4 (F := Ideal) x0 x1 x2 (ix2 ⟨R.val / 4, by omega⟩ ⟨R.val % 4 * 128 + l.val, by omega⟩) := by
  unfold flatK k0_pay7 k0_pay9 k0_pay11 k0_pay2
  generalize k0_pay4 (F := Ideal) x0 x1 x2 = s
  have h4 : R.val % 4 = 0 ∨ R.val % 4 = 1 ∨ R.val % 4 = 2 ∨ R.val % 4 = 3 := by omega
  rcases h4 with e | e | e | e
  · rw [rowPieces_read0 (ix2 R l) (ix2 ⟨R.val / 4, by omega⟩ l) (show R.val = 4 * (R.val / 4) by omega) rfl]
    simp only [e]
    pointwise
  · rw [rowPieces_read1 (ix2 R l) (ix2 ⟨R.val / 4, by omega⟩ l) (show R.val = 4 * (R.val / 4) + 1 by omega) rfl]
    simp only [e]
    pointwise
  · rw [rowPieces_read2 (ix2 R l) (ix2 ⟨R.val / 4, by omega⟩ l) (show R.val = 4 * (R.val / 4) + 2 by omega) rfl]
    simp only [e]
    pointwise
  · rw [rowPieces_read3 (ix2 R l) (ix2 ⟨R.val / 4, by omega⟩ l) (show R.val = 4 * (R.val / 4) + 3 by omega) rfl]
    simp only [e]
    pointwise

/-- A point's flat values: row `4 r + h` holds head `h`'s values of row `r`. -/
theorem flatV_apply (x0 : Vec Ideal S512x1024 .f32) (x1 : Vec Ideal S1x1024 .f32) (x2 : Vec Ideal S1024x1024 .bf16) (R : Fin 2048) (l : Fin 128) :
    flatV (F := Ideal) x0 x1 x2 (ix2 R l) = k0_pay4 (F := Ideal) x0 x1 x2 (ix2 ⟨R.val / 4, by omega⟩ ⟨512 + R.val % 4 * 128 + l.val, by omega⟩) := by
  unfold flatV k0_pay8 k0_pay10 k0_pay1 k0_pay3
  generalize k0_pay4 (F := Ideal) x0 x1 x2 = s
  have h4 : R.val % 4 = 0 ∨ R.val % 4 = 1 ∨ R.val % 4 = 2 ∨ R.val % 4 = 3 := by omega
  rcases h4 with e | e | e | e
  · rw [rowPieces_read0 (ix2 R l) (ix2 ⟨R.val / 4, by omega⟩ l) (show R.val = 4 * (R.val / 4) by omega) rfl]
    simp only [e]
    pointwise
  · rw [rowPieces_read1 (ix2 R l) (ix2 ⟨R.val / 4, by omega⟩ l) (show R.val = 4 * (R.val / 4) + 1 by omega) rfl]
    simp only [e]
    pointwise
  · rw [rowPieces_read2 (ix2 R l) (ix2 ⟨R.val / 4, by omega⟩ l) (show R.val = 4 * (R.val / 4) + 2 by omega) rfl]
    simp only [e]
    pointwise
  · rw [rowPieces_read3 (ix2 R l) (ix2 ⟨R.val / 4, by omega⟩ l) (show R.val = 4 * (R.val / 4) + 3 by omega) rfl]
    simp only [e]
    pointwise

section Point
variable (c : Dev nD) (t : Fin cfg0.N) (ht : t.val < 4)
include ht

/-- Window 0's block holds the memory's rows of the point's tile. -/
theorem blk0 (r : Fin 512) (k : Fin 1024) :
    iblk m c 0 t (ix2 r k) = m ((c.tc : Thread nD τ).loc main_arg0) (ix2 ⟨t.val * 512 + r.val, by omega⟩ k) := by
  blk_ext [iblk, V, idx t]

omit ht in
/-- Window 1's block is the norm's weight. -/
theorem blk1 : iblk m c 1 t = m ((c.tc : Thread nD τ).loc main_arg1) := by
  funext j
  blk_ext [iblk, V, idx t]

omit ht in
/-- Window 2's block is the projection. -/
theorem blk2 : iblk m c 2 t = m ((c.tc : Thread nD τ).loc main_arg2) := by
  funext j
  blk_ext [iblk, V, idx t]

/-- The product of a point's tile is the reference's product at the tile's rows. -/
theorem prod_at (r : Fin 512) (k : Fin 1024) :
    k0_pay4 (F := Ideal) (iblk m c 0 t) (iblk m c 1 t) (iblk m c 2 t) (ix2 r k)
      = val_main_v13 (F := Ideal) (m ((c.tc : Thread nD τ).loc main_arg0)) (m ((c.tc : Thread nD τ).loc main_arg1)) (m ((c.tc : Thread nD τ).loc main_arg2)) (ix2 ⟨t.val * 512 + r.val, by omega⟩ k) := by
  rw [pay4_apply, v13_apply, blk1, blk2]
  simp only [blk0 m c t ht]

/-- A point's block of the keys is the reference's. -/
theorem out3_at (r : Fin 512) (k : Fin 512) :
    k0_pay5 (F := Ideal) (iblk m c 0 t) (iblk m c 1 t) (iblk m c 2 t) (ix2 r k)
      = val_main_v14 (F := Ideal) (m ((c.tc : Thread nD τ).loc main_arg0)) (m ((c.tc : Thread nD τ).loc main_arg1)) (m ((c.tc : Thread nD τ).loc main_arg2)) (ix2 ⟨t.val * 512 + r.val, by omega⟩ k) := by
  rw [val_main_v14_apply]
  refine Eq.trans ?_ ((prod_at m c t ht r ⟨k.val, by omega⟩).trans (congrArg _ (by idx_ext)))
  unfold k0_pay5
  generalize k0_pay4 (F := Ideal) (iblk m c 0 t) (iblk m c 1 t) (iblk m c 2 t) = s
  pointwise

/-- A point's block of the values is the reference's. -/
theorem out4_at (r : Fin 512) (k : Fin 512) :
    k0_pay6 (F := Ideal) (iblk m c 0 t) (iblk m c 1 t) (iblk m c 2 t) (ix2 r k)
      = val_main_v15 (F := Ideal) (m ((c.tc : Thread nD τ).loc main_arg0)) (m ((c.tc : Thread nD τ).loc main_arg1)) (m ((c.tc : Thread nD τ).loc main_arg2)) (ix2 ⟨t.val * 512 + r.val, by omega⟩ k) := by
  rw [val_main_v15_apply]
  refine Eq.trans ?_ ((prod_at m c t ht r ⟨512 + k.val, by omega⟩).trans (congrArg _ (by idx_ext)))
  unfold k0_pay6
  generalize k0_pay4 (F := Ideal) (iblk m c 0 t) (iblk m c 1 t) (iblk m c 2 t) = s
  pointwise

/-- A point's block of the flat keys is the reference's. -/
theorem out5_at (R : Fin 2048) (l : Fin 128) :
    flatK (F := Ideal) (iblk m c 0 t) (iblk m c 1 t) (iblk m c 2 t) (ix2 R l)
      = val_main_v16 (F := Ideal) (m ((c.tc : Thread nD τ).loc main_arg0)) (m ((c.tc : Thread nD τ).loc main_arg1)) (m ((c.tc : Thread nD τ).loc main_arg2)) (ix2 ⟨t.val * 2048 + R.val, by omega⟩ l) := by
  rw [flatK_apply, prod_at m c t ht, val_main_v16_apply, val_main_v14_apply]
  refine congrArg _ (funext fun a => Fin.ext ?_)
  match a with
  | ⟨0, _⟩ => show t.val * 512 + R.val / 4 = ((t.val * 2048 + R.val) * 128 + l.val) / 512; omega
  | ⟨1, _⟩ => show R.val % 4 * 128 + l.val = ((t.val * 2048 + R.val) * 128 + l.val) % 512; omega

/-- A point's block of the flat values is the reference's. -/
theorem out6_at (R : Fin 2048) (l : Fin 128) :
    flatV (F := Ideal) (iblk m c 0 t) (iblk m c 1 t) (iblk m c 2 t) (ix2 R l)
      = val_main_v17 (F := Ideal) (m ((c.tc : Thread nD τ).loc main_arg0)) (m ((c.tc : Thread nD τ).loc main_arg1)) (m ((c.tc : Thread nD τ).loc main_arg2)) (ix2 ⟨t.val * 2048 + R.val, by omega⟩ l) := by
  rw [flatV_apply, prod_at m c t ht, val_main_v17_apply, val_main_v15_apply]
  refine congrArg _ (funext fun a => Fin.ext ?_)
  match a with
  | ⟨0, _⟩ => show t.val * 512 + R.val / 4 = ((t.val * 2048 + R.val) * 128 + l.val) / 512; omega
  | ⟨1, _⟩ => show 512 + R.val % 4 * 128 + l.val = 512 + ((t.val * 2048 + R.val) * 128 + l.val) % 512; omega

end Point

variable (c : Dev nD)

/-- The run's array of keys is the reference's. -/
theorem final3 : (dats (F := Ideal) m 0 c).arrAt 3 cfg0.N = val_main_v14 (F := Ideal) (m ((c.tc : Thread nD τ).loc main_arg0)) (m ((c.tc : Thread nD τ).loc main_arg1)) (m ((c.tc : Thread nD τ).loc main_arg2)) := by
  refine (dats (F := Ideal) m 0 c).arrAt_eq_of_covers 3 (val_main_v14 (F := Ideal) (m ((c.tc : Thread nD τ).loc main_arg0)) (m ((c.tc : Thread nD τ).loc main_arg1)) (m ((c.tc : Thread nD τ).loc main_arg2))) (by decide +kernel) fun t hf y => ?_
  have ht : t.val < 4 := lt_of_lt_of_eq t.isLt (show cfg0.N = 4 from N_0)
  blk_simp
  rw [after3]
  idx_vars y
  refine (out3_at m c t ht _ _).trans ?_
  refine congrArg _ ?_
  blk_ext [idx t]

/-- The run's array of values is the reference's. -/
theorem final4 : (dats (F := Ideal) m 0 c).arrAt 4 cfg0.N = val_main_v15 (F := Ideal) (m ((c.tc : Thread nD τ).loc main_arg0)) (m ((c.tc : Thread nD τ).loc main_arg1)) (m ((c.tc : Thread nD τ).loc main_arg2)) := by
  refine (dats (F := Ideal) m 0 c).arrAt_eq_of_covers 4 (val_main_v15 (F := Ideal) (m ((c.tc : Thread nD τ).loc main_arg0)) (m ((c.tc : Thread nD τ).loc main_arg1)) (m ((c.tc : Thread nD τ).loc main_arg2))) (by decide +kernel) fun t hf y => ?_
  have ht : t.val < 4 := lt_of_lt_of_eq t.isLt (show cfg0.N = 4 from N_0)
  blk_simp
  rw [after4]
  idx_vars y
  refine (out4_at m c t ht _ _).trans ?_
  refine congrArg _ ?_
  blk_ext [idx t]

/-- The run's array of flat keys is the reference's. -/
theorem final5 : (dats (F := Ideal) m 0 c).arrAt 5 cfg0.N = val_main_v16 (F := Ideal) (m ((c.tc : Thread nD τ).loc main_arg0)) (m ((c.tc : Thread nD τ).loc main_arg1)) (m ((c.tc : Thread nD τ).loc main_arg2)) := by
  refine (dats (F := Ideal) m 0 c).arrAt_eq_of_covers 5 (val_main_v16 (F := Ideal) (m ((c.tc : Thread nD τ).loc main_arg0)) (m ((c.tc : Thread nD τ).loc main_arg1)) (m ((c.tc : Thread nD τ).loc main_arg2))) (by decide +kernel) fun t hf y => ?_
  have ht : t.val < 4 := lt_of_lt_of_eq t.isLt (show cfg0.N = 4 from N_0)
  blk_simp
  rw [after5]
  idx_vars y
  refine (out5_at m c t ht _ _).trans ?_
  refine congrArg _ ?_
  blk_ext [idx t]

/-- The run's array of flat values is the reference's. -/
theorem final6 : (dats (F := Ideal) m 0 c).arrAt 6 cfg0.N = val_main_v17 (F := Ideal) (m ((c.tc : Thread nD τ).loc main_arg0)) (m ((c.tc : Thread nD τ).loc main_arg1)) (m ((c.tc : Thread nD τ).loc main_arg2)) := by
  refine (dats (F := Ideal) m 0 c).arrAt_eq_of_covers 6 (val_main_v17 (F := Ideal) (m ((c.tc : Thread nD τ).loc main_arg0)) (m ((c.tc : Thread nD τ).loc main_arg1)) (m ((c.tc : Thread nD τ).loc main_arg2))) (by decide +kernel) fun t hf y => ?_
  have ht : t.val < 4 := lt_of_lt_of_eq t.isLt (show cfg0.N = 4 from N_0)
  blk_simp
  rw [after6]
  idx_vars y
  refine (out6_at m c t ht _ _).trans ?_
  refine congrArg _ ?_
  blk_ext [idx t]

end Cert.Memkv
end
-- ==== Proof.MemClaim.lean ====
module

public import proofs.«01_k».proof.Proof.MemVal
public import Idealize.ShloMosaic.Lib.Claim
public import proofs.«01_k».proof.Defs
public import proofs.«01_k».proof.Proof.Gen.Reference2Ideal.Run

@[expose] public section

set_option maxRecDepth 16384

noncomputable section

open Idealize.ShloMosaic Idealize.ShloMosaic.TcCoe Idealize.SL.Sem

open Idealize.ShloMosaic.Pipeline (Dat)

namespace Cert.Memkv

/-- The memory keys' and values' reference runs, keeps its arguments and leaves every semaphore at zero. -/
theorem ref_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono (fun r h => ⟨fun c => (h c).2.2.2.2, sem_eq_zero_of_no_sems (by decide) r.2⟩) (Cert.Reference2Ideal.Value.run (F := Ideal) m ρ)

set_option maxHeartbeats 1600000 in
/-- The memory keys' and values' kernel over the extended reals and its reference, run on the same arrays, return the same results. -/
theorem algebraic : Cert.algebraic_Kernel2Ideal_Reference2Ideal (hKernel2Ideal := Cert.Kernel2Ideal.Gen.facts) (hReference2Ideal := Cert.Reference2Ideal.Gen.facts) := by
  pair_intro
  · run_from Cert.Kernel2Ideal.Hand.run_main m g
  · run_from Cert.Reference2Ideal.Value.run m' g'
    · obtain ⟨e0, e1, e2⟩ := hagree c
      refine Eq.trans ?_ (final3 m c).symm
      rw [← e0, ← e1, ← e2]
      exact Cert.Reference2Ideal.Read.val_main_v14_eq (F := Ideal) _ _ _
    · obtain ⟨e0, e1, e2⟩ := hagree c
      refine Eq.trans ?_ (final4 m c).symm
      rw [← e0, ← e1, ← e2]
      exact Cert.Reference2Ideal.Read.val_main_v15_eq (F := Ideal) _ _ _
    · obtain ⟨e0, e1, e2⟩ := hagree c
      refine Eq.trans ?_ (final5 m c).symm
      rw [← e0, ← e1, ← e2]
      exact Cert.Reference2Ideal.Read.val_main_v16_eq (F := Ideal) _ _ _
    · obtain ⟨e0, e1, e2⟩ := hagree c
      refine Eq.trans ?_ (final6 m c).symm
      rw [← e0, ← e1, ← e2]
      exact Cert.Reference2Ideal.Read.val_main_v17_eq (F := Ideal) _ _ _

end Cert.Memkv
end
-- ==== Proof.lean ====
/- The certificate's assembly: the frames of the nine programs, and the value claims, from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Reference3Ideal
public import proofs.«01_k».proof.Proof.RefFrames
public import proofs.«01_k».proof.Proof.FfnClaim
public import proofs.«01_k».proof.Proof.MergeClaim
public import proofs.«01_k».proof.Proof.MemFrameBits
public import proofs.«01_k».proof.Proof.MemFrameIdeal
public import proofs.«01_k».proof.Proof.MemClaim
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Merge.pre_facts, Cert.Ffn.pre_facts,
    fun m ρ _ => Cert.Kernel.Gen.frame m ρ, fun m ρ _ => Cert.KernelIdeal.Gen.frame m ρ, fun m ρ _ => Cert.KernelIdeal.Gen.frame m ρ,
    fun m ρ _ => Cert.Merge.ref_frame m ρ, fun m ρ _ => Cert.Merge.ref_frame m ρ,
    fun m ρ _ => Cert.Kernel2.Hand.frame m ρ, fun m ρ _ => Cert.Kernel2Ideal.Hand.frame m ρ, fun m ρ _ => Cert.Memkv.ref_frame m ρ,
    fun m ρ _ => Cert.Kernel3.Gen.frame m ρ, fun m ρ _ => Cert.Kernel3Ideal.Gen.frame m ρ, fun m ρ _ => Cert.Kernel3Ideal.Gen.frame m ρ,
    fun m ρ _ => Cert.Ffn.ref_frame m ρ, fun m ρ _ => Cert.Ffn.ref_frame m ρ,
    trivial, Cert.Merge.algebraic, trivial, Cert.Memkv.algebraic, trivial, Cert.Ffn.algebraic⟩

end Cert.Proof

end
